-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S8x1024x512 : Shape := ⟨3, ![8, 1024, 512]⟩
abbrev S3x8x1024x512 : Shape := ⟨4, ![3, 8, 1024, 512]⟩
abbrev S1024x512 : Shape := ⟨2, ![1024, 512]⟩
abbrev S3x8 : Shape := ⟨2, ![3, 8]⟩
abbrev S_ : Shape := ⟨0, ![]⟩
abbrev S1024x1024 : Shape := ⟨2, ![1024, 1024]⟩
abbrev S1x1024x512 : Shape := ⟨3, ![1, 1024, 512]⟩
abbrev S1x1 : Shape := ⟨2, ![1, 1]⟩
abbrev S1x1x1024x512 : Shape := ⟨4, ![1, 1, 1024, 512]⟩

abbrev nBuf : Space → Nat
  | .hbm => 9
  | .vmem => 6
  | .smem => 2
  | _ => 0

abbrev bufTy : (tb : Table) → Fin (tcTables nBuf tb) → BufTy
  | .hbm, ⟨0, _⟩ => ⟨S4096x1024, .i8⟩
  | .hbm, ⟨1, _⟩ => ⟨S1024x8192, .i8⟩
  | .hbm, ⟨2, _⟩ => ⟨S1, .f32⟩
  | .hbm, ⟨3, _⟩ => ⟨S1, .f32⟩
  | .hbm, ⟨4, _⟩ => ⟨S1024x8192, .f32⟩
  | .hbm, ⟨5, _⟩ => ⟨S8x1024x512, .f32⟩
  | .hbm, ⟨6, _⟩ => ⟨S3x8x1024x512, .f32⟩
  | .hbm, ⟨7, _⟩ => ⟨S8x1024x512, .f32⟩
  | .hbm, ⟨8, _⟩ => ⟨S3x8x1024x512, .f32⟩
  | .local _ .vmem, ⟨0, _⟩ => ⟨S4096x1024, .i8⟩
  | .local _ .vmem, ⟨1, _⟩ => ⟨S1024x8192, .i8⟩
  | .local _ .vmem, ⟨2, _⟩ => ⟨S1024x512, .f32⟩
  | .local _ .vmem, ⟨3, _⟩ => ⟨S1024x512, .f32⟩
  | .local _ .vmem, ⟨4, _⟩ => ⟨S4096x1024, .bf16⟩
  | .local _ .vmem, ⟨5, _⟩ => ⟨S1024x8192, .bf16⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_19 : BitVec 32 := 4#32
  let v28 : BitVec 32 := Scalar.addi v2 c4_i32_19
  let c2_i32_20 : BitVec 32 := 2#32
  let v29 : BitVec 32 := Scalar.subi v28 c2_i32_20
  let v30 : BitVec 32 := Scalar.subi v29 c_m1_i32
  let c4_i32_21 : BitVec 32 := 4#32
  let v31 : BitVec 32 := Scalar.remsi v30 c4_i32_21
  let c1024_i32 : BitVec 32 := 1024#32
  let v32 : BitVec 32 := Scalar.muli v31 c1024_i32
  let v33 : Index := Scalar.indexCast v32
  let c0_22 : Index := 0#32
  ![v33.toNat, 0]
def k0_off1_at (r : Fin 4) : BitVec 32 :=
  if r.val < 2 then
    if r.val < 1 then
      4294967295#32
    else
      0#32
  else
    if r.val < 3 then
      1#32
    else
      2#32
def k0_off2 (d0 : Dev nD) (c_m1_i32_24 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_23 : BitVec 32 := 2#32
  let v35 : BitVec 32 := Scalar.addi v2 c2_i32_23
  let v36 : BitVec 32 := Scalar.addi v35 c_m1_i32_24
  let c4_i32_25 : BitVec 32 := 4#32
  let v37 : BitVec 32 := Scalar.remsi v36 c4_i32_25
  let c1024_i32_26 : BitVec 32 := 1024#32
  let v38 : BitVec 32 := Scalar.muli v37 c1024_i32_26
  let v39 : Index := Scalar.indexCast v38
  let c0_27 : Index := 0#32
  ![v39.toNat, 0]
def k0_off2_at (r : Fin 4) : BitVec 32 :=
  if r.val < 2 then
    if r.val < 1 then
      4294967295#32
    else
      0#32
  else
    if r.val < 3 then
      1#32
    else
      2#32
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_45 : BitVec 32 := 1#32
  let v50 : BitVec 32 := Scalar.muli v7 c1_i32_45
  let v51 : BitVec 32 := Scalar.addi c0_i32_46 v50
  v51.toNat
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_68 : BitVec 32 := 1#32
  let v69 : BitVec 32 := Scalar.muli v5 c1_i32_68
  let v70 : BitVec 32 := Scalar.addi c0_i32_69 v69
  v70.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_91 : BitVec 32 := 1#32
  let v88 : BitVec 32 := Scalar.muli v7 c1_i32_91
  let v89 : BitVec 32 := Scalar.addi c0_i32_92 v88
  v89.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_114 : BitVec 32 := 1#32
  let v107 : BitVec 32 := Scalar.muli v5 c1_i32_114
  let v108 : BitVec 32 := Scalar.addi c0_i32_115 v107
  v108.toNat
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_137 : BitVec 32 := 1#32
  let v126 : BitVec 32 := Scalar.muli v7 c1_i32_137
  let v127 : BitVec 32 := Scalar.addi c0_i32_138 v126
  v127.toNat
def k0_dev8 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_160 : BitVec 32 := 1#32
  let v145 : BitVec 32 := Scalar.muli v5 c1_i32_160
  let v146 : BitVec 32 := Scalar.addi c0_i32_161 v145
  v146.toNat
def k0_dev9 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_182 : BitVec 32 := 1#32
  let v164 : BitVec 32 := Scalar.muli v7 c1_i32_182
  let v165 : BitVec 32 := Scalar.addi c0_i32_183 v164
  v165.toNat
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_205 : BitVec 32 := 1#32
  let v183 : BitVec 32 := Scalar.muli v5 c1_i32_205
  let v184 : BitVec 32 := Scalar.addi c0_i32_206 v183
  v184.toNat
def k0_dev11 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_228 : BitVec 32 := 1#32
  let v202 : BitVec 32 := Scalar.muli v7 c1_i32_228
  let v203 : BitVec 32 := Scalar.addi c0_i32_229 v202
  v203.toNat
def k0_dev12 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_251 : BitVec 32 := 1#32
  let v221 : BitVec 32 := Scalar.muli v5 c1_i32_251
  let v222 : BitVec 32 := Scalar.addi c0_i32_252 v221
  v222.toNat
def k0_dev13 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_273 : BitVec 32 := 1#32
  let v240 : BitVec 32 := Scalar.muli v7 c1_i32_273
  let v241 : BitVec 32 := Scalar.addi c0_i32_274 v240
  v241.toNat
def k0_dev14 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_296 : BitVec 32 := 1#32
  let v259 : BitVec 32 := Scalar.muli v5 c1_i32_296
  let v260 : BitVec 32 := Scalar.addi c0_i32_297 v259
  v260.toNat
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_318 : BitVec 32 := 1#32
  let v278 : BitVec 32 := Scalar.muli v7 c1_i32_318
  let v279 : BitVec 32 := Scalar.addi c0_i32_319 v278
  v279.toNat
def k0_dev16 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_341 : BitVec 32 := 1#32
  let v297 : BitVec 32 := Scalar.muli v5 c1_i32_341
  let v298 : BitVec 32 := Scalar.addi c0_i32_342 v297
  v298.toNat
def k0_dev17 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_363 : BitVec 32 := 1#32
  let v316 : BitVec 32 := Scalar.muli v7 c1_i32_363
  let v317 : BitVec 32 := Scalar.addi c0_i32_364 v316
  v317.toNat
def k0_dev18 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_386 : BitVec 32 := 1#32
  let v335 : BitVec 32 := Scalar.muli v5 c1_i32_386
  let v336 : BitVec 32 := Scalar.addi c0_i32_387 v335
  v336.toNat
def k0_dev19 (d0 : Dev nD) : Nat :=
  let c0_i32_457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_456 : BitVec 32 := 1#32
  let v387 : BitVec 32 := Scalar.muli v7 c1_i32_456
  let v388 : BitVec 32 := Scalar.addi c0_i32_457 v387
  v388.toNat
def k0_dev20 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_515 : BitVec 32 := 1#32
  let v426 : BitVec 32 := Scalar.muli v5 c1_i32_515
  let v427 : BitVec 32 := Scalar.addi c0_i32_516 v426
  v427.toNat
def k0_dev21 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_574 : BitVec 32 := 1#32
  let v465 : BitVec 32 := Scalar.muli v7 c1_i32_574
  let v466 : BitVec 32 := Scalar.addi c0_i32_575 v465
  v466.toNat
def k0_dev22 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_633 : BitVec 32 := 1#32
  let v504 : BitVec 32 := Scalar.muli v5 c1_i32_633
  let v505 : BitVec 32 := Scalar.addi c0_i32_634 v504
  v505.toNat
def k0_dev23 (d0 : Dev nD) : Nat :=
  let c0_i32_693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_692 : BitVec 32 := 1#32
  let v543 : BitVec 32 := Scalar.muli v7 c1_i32_692
  let v544 : BitVec 32 := Scalar.addi c0_i32_693 v543
  v544.toNat
def k0_dev24 (d0 : Dev nD) : Nat :=
  let c0_i32_752 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_751 : BitVec 32 := 1#32
  let v582 : BitVec 32 := Scalar.muli v5 c1_i32_751
  let v583 : BitVec 32 := Scalar.addi c0_i32_752 v582
  v583.toNat
def k0_dev25 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_810 : BitVec 32 := 1#32
  let v621 : BitVec 32 := Scalar.muli v7 c1_i32_810
  let v622 : BitVec 32 := Scalar.addi c0_i32_811 v621
  v622.toNat
def k0_dev26 (d0 : Dev nD) : Nat :=
  let c0_i32_870 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_869 : BitVec 32 := 1#32
  let v660 : BitVec 32 := Scalar.muli v5 c1_i32_869
  let v661 : BitVec 32 := Scalar.addi c0_i32_870 v660
  v661.toNat
def k0_dev27 (d0 : Dev nD) : Nat :=
  let c0_i32_929 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_928 : BitVec 32 := 1#32
  let v699 : BitVec 32 := Scalar.muli v7 c1_i32_928
  let v700 : BitVec 32 := Scalar.addi c0_i32_929 v699
  v700.toNat
def k0_dev28 (d0 : Dev nD) : Nat :=
  let c0_i32_988 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_987 : BitVec 32 := 1#32
  let v738 : BitVec 32 := Scalar.muli v5 c1_i32_987
  let v739 : BitVec 32 := Scalar.addi c0_i32_988 v738
  v739.toNat
def k0_dev29 (d0 : Dev nD) : Nat :=
  let c0_i32_1047 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1046 : BitVec 32 := 1#32
  let v777 : BitVec 32 := Scalar.muli v7 c1_i32_1046
  let v778 : BitVec 32 := Scalar.addi c0_i32_1047 v777
  v778.toNat
def k0_dev30 (d0 : Dev nD) : Nat :=
  let c0_i32_1106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1105 : BitVec 32 := 1#32
  let v816 : BitVec 32 := Scalar.muli v5 c1_i32_1105
  let v817 : BitVec 32 := Scalar.addi c0_i32_1106 v816
  v817.toNat
def k0_dev31 (d0 : Dev nD) : Nat :=
  let c0_i32_1165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1164 : BitVec 32 := 1#32
  let v855 : BitVec 32 := Scalar.muli v7 c1_i32_1164
  let v856 : BitVec 32 := Scalar.addi c0_i32_1165 v855
  v856.toNat
def k0_dev32 (d0 : Dev nD) : Nat :=
  let c0_i32_1224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1223 : BitVec 32 := 1#32
  let v894 : BitVec 32 := Scalar.muli v5 c1_i32_1223
  let v895 : BitVec 32 := Scalar.addi c0_i32_1224 v894
  v895.toNat
def k0_dev33 (d0 : Dev nD) : Nat :=
  let c0_i32_1283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1282 : BitVec 32 := 1#32
  let v933 : BitVec 32 := Scalar.muli v7 c1_i32_1282
  let v934 : BitVec 32 := Scalar.addi c0_i32_1283 v933
  v934.toNat
def k0_dev34 (d0 : Dev nD) : Nat :=
  let c0_i32_1342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1341 : BitVec 32 := 1#32
  let v972 : BitVec 32 := Scalar.muli v5 c1_i32_1341
  let v973 : BitVec 32 := Scalar.addi c0_i32_1342 v972
  v973.toNat
def k0_dev35 (d0 : Dev nD) : Nat :=
  let c0_i32_1412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1411 : BitVec 32 := 1#32
  let v1024 : BitVec 32 := Scalar.muli v7 c1_i32_1411
  let v1025 : BitVec 32 := Scalar.addi c0_i32_1412 v1024
  v1025.toNat
def k0_dev36 (d0 : Dev nD) : Nat :=
  let c0_i32_1471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1470 : BitVec 32 := 1#32
  let v1063 : BitVec 32 := Scalar.muli v5 c1_i32_1470
  let v1064 : BitVec 32 := Scalar.addi c0_i32_1471 v1063
  v1064.toNat
def k0_dev37 (d0 : Dev nD) : Nat :=
  let c0_i32_1530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1529 : BitVec 32 := 1#32
  let v1102 : BitVec 32 := Scalar.muli v7 c1_i32_1529
  let v1103 : BitVec 32 := Scalar.addi c0_i32_1530 v1102
  v1103.toNat
def k0_dev38 (d0 : Dev nD) : Nat :=
  let c0_i32_1589 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1588 : BitVec 32 := 1#32
  let v1141 : BitVec 32 := Scalar.muli v5 c1_i32_1588
  let v1142 : BitVec 32 := Scalar.addi c0_i32_1589 v1141
  v1142.toNat
def k0_dev39 (d0 : Dev nD) : Nat :=
  let c0_i32_1648 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1647 : BitVec 32 := 1#32
  let v1180 : BitVec 32 := Scalar.muli v7 c1_i32_1647
  let v1181 : BitVec 32 := Scalar.addi c0_i32_1648 v1180
  v1181.toNat
def k0_dev40 (d0 : Dev nD) : Nat :=
  let c0_i32_1707 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1706 : BitVec 32 := 1#32
  let v1219 : BitVec 32 := Scalar.muli v5 c1_i32_1706
  let v1220 : BitVec 32 := Scalar.addi c0_i32_1707 v1219
  v1220.toNat
def k0_dev41 (d0 : Dev nD) : Nat :=
  let c0_i32_1766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1765 : BitVec 32 := 1#32
  let v1258 : BitVec 32 := Scalar.muli v7 c1_i32_1765
  let v1259 : BitVec 32 := Scalar.addi c0_i32_1766 v1258
  v1259.toNat
def k0_dev42 (d0 : Dev nD) : Nat :=
  let c0_i32_1825 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1824 : BitVec 32 := 1#32
  let v1297 : BitVec 32 := Scalar.muli v5 c1_i32_1824
  let v1298 : BitVec 32 := Scalar.addi c0_i32_1825 v1297
  v1298.toNat
def k0_dev43 (d0 : Dev nD) : Nat :=
  let c0_i32_1884 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1883 : BitVec 32 := 1#32
  let v1336 : BitVec 32 := Scalar.muli v7 c1_i32_1883
  let v1337 : BitVec 32 := Scalar.addi c0_i32_1884 v1336
  v1337.toNat
def k0_dev44 (d0 : Dev nD) : Nat :=
  let c0_i32_1943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1942 : BitVec 32 := 1#32
  let v1375 : BitVec 32 := Scalar.muli v5 c1_i32_1942
  let v1376 : BitVec 32 := Scalar.addi c0_i32_1943 v1375
  v1376.toNat
def k0_dev45 (d0 : Dev nD) : Nat :=
  let c0_i32_2002 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2001 : BitVec 32 := 1#32
  let v1414 : BitVec 32 := Scalar.muli v7 c1_i32_2001
  let v1415 : BitVec 32 := Scalar.addi c0_i32_2002 v1414
  v1415.toNat
def k0_dev46 (d0 : Dev nD) : Nat :=
  let c0_i32_2061 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2060 : BitVec 32 := 1#32
  let v1453 : BitVec 32 := Scalar.muli v5 c1_i32_2060
  let v1454 : BitVec 32 := Scalar.addi c0_i32_2061 v1453
  v1454.toNat
def k0_dev47 (d0 : Dev nD) : Nat :=
  let c0_i32_2120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2119 : BitVec 32 := 1#32
  let v1492 : BitVec 32 := Scalar.muli v7 c1_i32_2119
  let v1493 : BitVec 32 := Scalar.addi c0_i32_2120 v1492
  v1493.toNat
def k0_dev48 (d0 : Dev nD) : Nat :=
  let c0_i32_2179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2178 : BitVec 32 := 1#32
  let v1531 : BitVec 32 := Scalar.muli v5 c1_i32_2178
  let v1532 : BitVec 32 := Scalar.addi c0_i32_2179 v1531
  v1532.toNat
def k0_dev49 (d0 : Dev nD) : Nat :=
  let c0_i32_2238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2237 : BitVec 32 := 1#32
  let v1570 : BitVec 32 := Scalar.muli v7 c1_i32_2237
  let v1571 : BitVec 32 := Scalar.addi c0_i32_2238 v1570
  v1571.toNat
def k0_dev50 (d0 : Dev nD) : Nat :=
  let c0_i32_2297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2296 : BitVec 32 := 1#32
  let v1609 : BitVec 32 := Scalar.muli v5 c1_i32_2296
  let v1610 : BitVec 32 := Scalar.addi c0_i32_2297 v1609
  v1610.toNat
abbrev stage0_0 : Fin 1 → Memref sig .tc .vmem S4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Steps.lean ====
module

public import proofs.«01_k».proof.Proof.Gen.KernelIdeal.Points
public import proofs.«01_k».proof.Proof.Gen.KernelIdeal.Skeleton

/-!
The kernel's body, written again as a short list of steps.

The printed body is one long straight line of operations: 64 times the same few of them, on slices whose
numbers are written out. Here the 64 are one program `step` with the direction, the tile and the hop as
arguments; `SameBody.lean` proves that the printed body is their sequence.
-/

@[expose] public section

noncomputable section

namespace Cert.Ring

open Idealize.ShloMosaic Idealize.SL.Sem Cert.KernelIdeal Cert.KernelIdeal.Gen

variable {F : FTy → Type} [FloatOps F]

/-- A program of the kernel's core. -/
abbrev Body (F : FTy → Type) [FloatOps F] (α : Type) : Type 1 :=
  Prog (TpuEff nD τ sig (Elt F) Λ₀ .tc) α

/-! ## The buffers of one direction: `false` is clockwise (to the right), `true` counter-clockwise -/

/-- The array a direction's partial sums are sent from. -/
def sBuf : Bool → Memref sig .tc .hbm S8x1024x512 .f32
  | false => Memref.whole main_v1_1
  | true => Memref.whole main_v1_3

/-- The array a direction's partial sums are received in. -/
def rBuf : Bool → Memref sig .tc .hbm S3x8x1024x512 .f32
  | false => Memref.whole main_v1_2
  | true => Memref.whole main_v1_4

/-- The semaphores that count what has left. -/
def sendSems : Bool → DmaSems sig S3x8
  | false => cc0_scratch4
  | true => cc0_scratch6

/-- The semaphores that count what has arrived. -/
def recvSems : Bool → DmaSems sig S3x8
  | false => cc0_scratch5
  | true => cc0_scratch7

/-- The device a direction sends to. -/
def dst : Bool → Dev nD → Dev nD
  | false, c => ⟨k0_dev2 c, k0_dev2_lt c⟩
  | true, c => ⟨k0_dev1 c, k0_dev1_lt c⟩

/-- The first column of tile `j` of a direction's half of the columns. -/
def col : Bool → Fin 8 → Nat
  | false, j => 512 * j.val
  | true, j => 4096 + 512 * j.val

theorem col_inb (d : Bool) (j : Fin 8) : ∀ a, (![0, col d j] : Fin 2 → Nat) a + S1024x512.size a ≤ S1024x8192.size a := by
  revert d j; decide

theorem slot_inb (j : Fin 8) : ∀ a, (![j.val, 0, 0] : Fin 3 → Nat) a + S1x1024x512.size a ≤ S8x1024x512.size a := by
  revert j; decide

theorem rslot_inb (h : Fin 3) (j : Fin 8) :
    ∀ a, (![h.val, j.val, 0, 0] : Fin 4 → Nat) a + S1x1x1024x512.size a ≤ S3x8x1024x512.size a := by
  revert h j; decide

theorem sem_inb (h : Fin 3) (j : Fin 8) : ∀ a, (![h.val, j.val] : Fin 2 → Nat) a + S1x1.size a ≤ S3x8.size a := by
  revert h j; decide

/-- Slot `j` of the send array. -/
def sSlot (d : Bool) (j : Fin 8) : Memref sig .tc .hbm S1024x512 .f32 :=
  ((sBuf d).slice (Rect.unit (s := S8x1024x512) ![j.val, 0, 0] S1x1024x512.size (slot_inb j)) (fun _ => rfl)).squeeze
    S1024x512 squeezes_S1x1024x512_S1024x512

/-- Slot `(h, j)` of the receive array. -/
def rSlot (d : Bool) (h : Fin 3) (j : Fin 8) : Memref sig .tc .hbm S1024x512 .f32 :=
  ((rBuf d).slice (Rect.unit (s := S3x8x1024x512) ![h.val, j.val, 0, 0] S1x1x1024x512.size (rslot_inb h j))
    (fun _ => rfl)).squeeze S1024x512 squeezes_S1x1x1024x512_S1024x512

/-- The semaphore of the departures of hop `h`, tile `j`. -/
def sendSem (d : Bool) (h : Fin 3) (j : Fin 8) : DmaSem sig :=
  (((sendSems d).slice (Rect.unit (s := S3x8) ![h.val, j.val] S1x1.size (sem_inb h j))).squeeze S_ squeezes_S1x1_S_).sem

/-- The semaphore of the arrivals of hop `h`, tile `j`. -/
def recvSem (d : Bool) (h : Fin 3) (j : Fin 8) : DmaSem sig :=
  (((recvSems d).slice (Rect.unit (s := S3x8) ![h.val, j.val] S1x1.size (sem_inb h j))).squeeze S_ squeezes_S1x1_S_).sem

/-- The semaphore of the copies inside a device. -/
def copySem : DmaSem sig := cc0_scratch8.sem

/-- The semaphore on which neighbours tell each other that they have begun. -/
def barSem : Sem sig := (SemArray.scalar (sig.barrier 0 rfl) : Sems sig S_).sem

/-- The columns of the result that tile `j` of a direction fills. -/
def outTile (d : Bool) (j : Fin 8) : Memref sig .tc .hbm S1024x512 .f32 :=
  (Memref.whole main_v1_0).slice (Rect.unit (s := S1024x8192) ![0, col d j] S1024x512.size (col_inb d j)) (fun _ => rfl)

/-- The accumulator. -/
abbrev accM : Memref sig .tc .vmem S1024x512 .f32 := Memref.whole cc0_scratch0
/-- The copy in fast memory of what arrived. -/
abbrev inM : Memref sig .tc .vmem S1024x512 .f32 := Memref.whole cc0_scratch1
/-- The left operand in bf16. -/
abbrev xM : Memref sig .tc .vmem S4096x1024 .bf16 := Memref.whole cc0_scratch2
/-- The right operand in bf16. -/
abbrev wM : Memref sig .tc .vmem S1024x8192 .bf16 := Memref.whole cc0_scratch3

/-- The rectangle of a whole tile. -/
abbrev tileR : Rect S1024x512 :=
  Rect.unit (s := S1024x512) ![0, 0] S1024x512.size inb_S1024x512_S1024x512_0_0

/-! ## What a tile's step computes -/

/-- The product of a block of rows with a tile of columns. -/
def dot (x : Vec F S1024x1024 .bf16) (w : Vec F S1024x512 .bf16) : FVec F S1024x512 .f32 :=
  matmul dot_S1024x1024_S1024x512_S1024x512_1_0_0_1_n_n none x w (constant S1024x512 .f32 0x00000000#32)

/-- A device's own product added to the sum that arrived. -/
def dotAdd (x : Vec F S1024x1024 .bf16) (w : Vec F S1024x512 .bf16) (r : Vec F S1024x512 .f32) : FVec F S1024x512 .f32 :=
  addf (dot x w) r

/-- The finished sum, scaled and cut off below zero. -/
def finish (sc : F .f32) (v : FVec F S1024x512 .f32) : FVec F S1024x512 .f32 :=
  maximumf (mulf v (broadcast S1024x512 sc)) (broadcast S1024x512 (Scalar.ofBits .f32 0x00000000#32))

/-- A tile stored and read back in its own shape. -/
def same (v : FVec F S1024x512 .f32) : FVec F S1024x512 .f32 := shapeCast S1024x512 v shapeCasts_S1024x512_S1024x512

/-! ## The steps -/

/-- The tile `j` of the right operand. -/
def loadW (d : Bool) (j : Fin 8) : Body F (Vec F S1024x512 .bf16) :=
  Prog.lift (.load wM (Rect.unit (s := S1024x8192) ![0, col d j] S1024x512.size (col_inb d j)).toLoadRect
    (View.loadsAt_vmem h_S1024x512))

/-- What a tile in fast memory holds. -/
def loadT (M : Memref sig .tc .vmem S1024x512 .f32) : Body F (Vec F S1024x512 .f32) :=
  Prog.lift (.load M tileR.toLoadRect (View.loadsAt_vmem h_S1024x512))

/-- The accumulator is overwritten; the printed kernel reads it first and drops what it read. -/
def setAcc (v : FVec F S1024x512 .f32) : Body F PUnit := do
  let _ ← loadT accM
  Prog.lift (.store accM tileR (same v) Finset.univ (View.stores_vmem_bits_univ h_S1024x512 rfl) (.inl rfl))

/-- The accumulator is copied to `M`, and the copy waited for. -/
def copyAcc (M : Memref sig .tc .hbm S1024x512 .f32) (hM : M.view.WordExact) : Body F PUnit := do
  Prog.lift (.enqueueDma accM (.here M) (.dma copySem) (Memref.isWhole_whole _).wordExact hM ⟨Or.inl rfl, trivial⟩)
  Prog.lift (.waitDma2 copySem accM M (Memref.isWhole_whole _).wordExact hM)

/-- A send slot is whole words. -/
theorem sSlot_exact (d : Bool) (j : Fin 8) : (sSlot d j).view.WordExact := (View.wordExact_bits rfl).reshape _ _
/-- A receive slot is whole words. -/
theorem rSlot_exact (d : Bool) (h : Fin 3) (j : Fin 8) : (rSlot d h j).view.WordExact := (View.wordExact_bits rfl).reshape _ _
/-- A tile of the result is whole words. -/
theorem outTile_exact (d : Bool) (j : Fin 8) : (outTile d j).view.WordExact := View.wordExact_bits rfl

/-- Send slot `j` starts towards the neighbour's receive slot `(h, j)`. -/
def send (c : Dev nD) (d : Bool) (h : Fin 3) (j : Fin 8) : Body F PUnit :=
  Prog.lift (.enqueueDma (sSlot d j) (.remote (Dev.tc (dst d c)) (rSlot d h j) (.dma (sendSem d h j))) (.dma (recvSem d h j))
    (sSlot_exact d j) (rSlot_exact d h j) ⟨⟨rfl, Or.inl rfl⟩, trivial⟩)

/-- The first step of a tile: the product is computed and sent. -/
def first (c : Dev nD) (x : Vec F S1024x1024 .bf16) (d : Bool) (j : Fin 8) : Body F PUnit := do
  let w ← loadW d j
  setAcc (dot x w)
  copyAcc (sSlot d j) (sSlot_exact d j)
  send c d 0 j

/-- What a later step begins with: hop `h` of the tile has left and arrived, and what arrived is fetched while the next
    tile of the right operand is read. -/
def arrive (d : Bool) (h : Fin 3) (j : Fin 8) : Body F (Vec F S1024x512 .bf16 × Vec F S1024x512 .f32) := do
  Prog.lift (.waitDma2 (sendSem d h j) (rSlot d h j) (sSlot d j) (rSlot_exact d h j) (sSlot_exact d j))
  Prog.lift (.waitDma2 (recvSem d h j) (sSlot d j) (rSlot d h j) (sSlot_exact d j) (rSlot_exact d h j))
  Prog.lift (.enqueueDma (rSlot d h j) (.here inM) (.dma copySem) (rSlot_exact d h j) (Memref.isWhole_whole _).wordExact
    ⟨Or.inl rfl, trivial⟩)
  let w ← loadW d j
  Prog.lift (.waitDma2 copySem (rSlot d h j) inM (rSlot_exact d h j) (Memref.isWhole_whole _).wordExact)
  let r ← loadT inM
  pure (w, r)

/-- A later step of a tile: the product is added to what arrived and sent on. -/
def pass (c : Dev nD) (x : Vec F S1024x1024 .bf16) (h h' : Fin 3) (d : Bool) (j : Fin 8) : Body F PUnit := do
  let wr ← arrive d h j
  setAcc (dotAdd x wr.1 wr.2)
  copyAcc (sSlot d j) (sSlot_exact d j)
  send c d h' j

/-- The last step of a tile: the sum is complete, is scaled and cut off, and is put in its place in the result. -/
def last (sc : F .f32) (x : Vec F S1024x1024 .bf16) (d : Bool) (j : Fin 8) : Body F PUnit := do
  let wr ← arrive d 2 j
  setAcc (finish sc (dotAdd x wr.1 wr.2))
  copyAcc (outTile d j) (outTile_exact d j)

/-! ## A round: every tile of both directions, one after the other -/

/-- The word that numbers the block of rows of round `s`. -/
def word : Fin 4 → BitVec 32
  | 0 => 4294967295#32
  | 1 => 0#32
  | 2 => 1#32
  | 3 => 2#32

/-- Where the block of rows of a round starts. -/
def off : Bool → Dev nD → Fin 4 → Fin 2 → Nat
  | false, c, s => k0_off1 c (word s)
  | true, c, s => k0_off2 c (word s)

theorem off_inb (d : Bool) (c : Dev nD) (s : Fin 4) : ∀ a, off d c s a + S1024x1024.size a ≤ S4096x1024.size a := by
  cases d <;> revert s
  · exact Fin.forall_fin_succ.2 ⟨k0_off1_inb c 0, Fin.forall_fin_succ.2 ⟨k0_off1_inb c 1,
      Fin.forall_fin_succ.2 ⟨k0_off1_inb c 2, Fin.forall_fin_succ.2 ⟨k0_off1_inb c 3, fun i => i.elim0⟩⟩⟩⟩
  · exact Fin.forall_fin_succ.2 ⟨k0_off2_inb c 0, Fin.forall_fin_succ.2 ⟨k0_off2_inb c 1,
      Fin.forall_fin_succ.2 ⟨k0_off2_inb c 2, Fin.forall_fin_succ.2 ⟨k0_off2_inb c 3, fun i => i.elim0⟩⟩⟩⟩

/-- The block of rows of the left operand that a direction multiplies in round `s`. -/
def loadX (c : Dev nD) (d : Bool) (s : Fin 4) : Body F (Vec F S1024x1024 .bf16) :=
  Prog.lift (.load xM (Rect.unit (s := S4096x1024) (off d c s) S1024x1024.size (off_inb d c s)).toLoadRect
    (View.loadsAt_vmem h_S1024x1024))

/-- A sequence of programs. -/
def seqs {α : Type} (f : α → Body F PUnit) : List α → Body F PUnit
  | [] => pure ⟨⟩
  | a :: l => f a >>= fun _ => seqs f l

/-- The eight tiles. -/
def tiles : List (Fin 8) := [0, 1, 2, 3, 4, 5, 6, 7]

/-- A round: the two blocks of rows are read, and for each tile the two directions' steps are taken. -/
def round (c : Dev nD) (s : Fin 4) (step : Vec F S1024x1024 .bf16 → Bool → Fin 8 → Body F PUnit) : Body F PUnit := do
  let x0 ← loadX c false s
  let x1 ← loadX c true s
  seqs (fun j => step x0 false j >>= fun _ => step x1 true j) tiles

/-! ## The whole body -/

/-- The two neighbours are told this device has begun, both neighbours are waited for, and the operands are read and
    converted. The result is the scale. -/
def prologue (c : Dev nD) (xa : Memref sig .tc .vmem S4096x1024 .i8) (wa : Memref sig .tc .vmem S1024x8192 .i8)
    (sa sb : Memref sig .tc .smem S1 .f32) : Body F (F .f32) := do
  semSignalWord (dst true c) barSem 1#32
  semSignalWord (dst false c) barSem 1#32
  semWaitWord barSem 2#32
  let a ← smemLoad sa (Rect.unit (s := S1) ![0] S1.size inb_S1_S1_0) numel1_S1 rfl
  let b ← smemLoad sb (Rect.unit (s := S1) ![0] S1.size inb_S1_S1_0) numel1_S1 rfl
  let x ← Prog.lift (.load xa (Rect.unit (s := S4096x1024) ![0, 0] S4096x1024.size inb_S4096x1024_S4096x1024_0_0).toLoadRect
    (View.loadsAt_vmem h_S4096x1024))
  let _ ← Prog.lift (.load xM (Rect.unit (s := S4096x1024) ![0, 0] S4096x1024.size inb_S4096x1024_S4096x1024_0_0).toLoadRect
    (View.loadsAt_vmem h_S4096x1024))
  Prog.lift (.store xM (Rect.unit (s := S4096x1024) ![0, 0] S4096x1024.size inb_S4096x1024_S4096x1024_0_0) (k0_pay3 x)
    Finset.univ (View.stores_vmem h_S4096x1024
      ((Memref.isWhole_whole _).storeExact_slice rfl _ packedbf16_S4096x1024_S4096x1024_0_0) (fun _ => rfl)) (.inl rfl))
  let w ← Prog.lift (.load wa (Rect.unit (s := S1024x8192) ![0, 0] S1024x8192.size inb_S1024x8192_S1024x8192_0_0).toLoadRect
    (View.loadsAt_vmem h_S1024x8192))
  let _ ← Prog.lift (.load wM (Rect.unit (s := S1024x8192) ![0, 0] S1024x8192.size inb_S1024x8192_S1024x8192_0_0).toLoadRect
    (View.loadsAt_vmem h_S1024x8192))
  Prog.lift (.store wM (Rect.unit (s := S1024x8192) ![0, 0] S1024x8192.size inb_S1024x8192_S1024x8192_0_0) (k0_pay4 w)
    Finset.univ (View.stores_vmem h_S1024x8192
      ((Memref.isWhole_whole _).storeExact_slice rfl _ packedbf16_S1024x8192_S1024x8192_0_0) (fun _ => rfl)) (.inl rfl))
  pure (k0_pay2 a b)

/-- The body as its steps. -/
def body (xa : Memref sig .tc .vmem S4096x1024 .i8) (wa : Memref sig .tc .vmem S1024x8192 .i8)
    (sa sb : Memref sig .tc .smem S1 .f32) : Body F PUnit := do
  let c ← Prog.lift .deviceId
  let sc ← prologue c xa wa sa sb
  round c 0 (first c)
  round c 1 fun x => pass c x 0 1
  round c 2 fun x => pass c x 1 2
  round c 3 fun x => last sc x

end Cert.Ring

end
-- ==== Proof.Cells.lean ====
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

/-!
The semaphores of the kernel: which one counts what, in what order the transfers are issued, what a device
owes its neighbours at each point of its program, and the order in which waiting is safe.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring of devices -/

/-- The neighbour a direction leads to is the one the opposite direction leads back from. -/
theorem dst_back (d : Bool) (c : Dev nD) : dst d (dst (!d) c) = c := by
  cases d <;> revert c <;> decide

/-- The same the other way round. -/
theorem back_dst (d : Bool) (c : Dev nD) : dst (!d) (dst d c) = c := by
  have h := dst_back (!d) c
  rwa [Bool.not_not] at h

/-- One step around the ring in a direction. -/
def turn (d : Bool) : Dev nD ≃ Dev nD := ⟨dst d, dst (!d), back_dst d, dst_back d⟩

/-! ## The transfers between devices, in the order a device issues them -/

/-- A transfer: its direction, its hop and its tile. -/
abbrev Hop : Type := Bool × Fin 3 × Fin 8

/-- When in its program a device issues a transfer. -/
def rank (i : Hop) : ℕ := 16 * i.2.1.val + 2 * i.2.2.val + i.1.toNat

theorem rank_inj : Function.Injective rank := by
  rintro ⟨d, h, j⟩ ⟨d', h', j'⟩ e
  have hj := j.isLt; have hj' := j'.isLt
  simp only [rank] at e
  have hd : d.toNat ≤ 1 := Bool.toNat_le d
  have hd' : d'.toNat ≤ 1 := Bool.toNat_le d'
  have h1 : h = h' := Fin.ext (by omega)
  have h2 : j = j' := Fin.ext (by omega)
  have h3 : d = d' := by
    have : d.toNat = d'.toNat := by omega
    revert this; cases d <;> cases d' <;> decide
  rw [h1, h2, h3]

/-! ## What each semaphore counts -/

/-- What a semaphore counts: the neighbours that have begun, the departure of a transfer, the arrival of one, or
    something that stays within the device. -/
inductive Role : Type
  | begun
  | left (i : Hop)
  | arrived (i : Hop)
  | inside
deriving DecidableEq

/-- The role of the `n`-th semaphore of the four arrays of transfer semaphores. -/
def roleAt (n : ℕ) : Role :=
  let h : Fin 3 := ⟨n % 24 / 8, by omega⟩
  let j : Fin 8 := ⟨n % 8, by omega⟩
  if n / 24 = 0 then .left (false, h, j)
  else if n / 24 = 1 then .arrived (false, h, j)
  else if n / 24 = 2 then .left (true, h, j)
  else if n / 24 = 3 then .arrived (true, h, j)
  else .inside

/-- The role of a semaphore. -/
def role : SemLoc sig → Role
  | .reg s => if s = barSem then .begun else .inside
  | .dma q => if q.val < 4 then .inside else roleAt (q.val - 4)

theorem role_bar : role (.reg barSem) = .begun := by decide

theorem role_send (d : Bool) (h : Fin 3) (j : Fin 8) : role (.dma (sendSem d h j)) = .left (d, h, j) := by
  cases d <;> revert h j <;> decide

theorem role_recv (d : Bool) (h : Fin 3) (j : Fin 8) : role (.dma (recvSem d h j)) = .arrived (d, h, j) := by
  cases d <;> revert h j <;> decide

theorem role_copy : role (.dma copySem) = .inside := by decide

/-! ## The cells -/

/-- The semaphore on which device `c` learns that its neighbours have begun. -/
abbrev barCell (c : Dev nD) : GSem nD τ sig := ((c : Thread nD τ), .reg barSem)
/-- The semaphore on which device `c` learns that a transfer of its own has left. -/
abbrev leftCell (c : Dev nD) (i : Hop) : GSem nD τ sig := ((c : Thread nD τ), .dma (sendSem i.1 i.2.1 i.2.2))
/-- The semaphore on which device `c` learns that a transfer to it has arrived. -/
abbrev hereCell (c : Dev nD) (i : Hop) : GSem nD τ sig := ((c : Thread nD τ), .dma (recvSem i.1 i.2.1 i.2.2))

theorem hereCell_inj {c c' : Dev nD} {i i' : Hop} (h : hereCell c i = hereCell c' i') : c = c' ∧ i = i' := by
  have h1 := congrArg (fun g : GSem nD τ sig => g.1.1) h
  have h2 := congrArg (fun g : GSem nD τ sig => role g.2) h
  simp only [role_recv, Role.arrived.injEq] at h2
  exact ⟨h1, h2⟩

/-- What a transfer of one tile adds to a semaphore. -/
abbrev N : ℕ := (accM : Memref sig .tc .vmem S1024x512 .f32).view.dmaCredit

theorem N_pos : 0 < N := View.dmaCredit_pos _ (by decide)

theorem amount_sSlot (d : Bool) (j : Fin 8) (sm : DmaSem sig) : (sSlot d j).view.amount (.dma sm) = N := by
  cases d <;> rfl
theorem amount_rSlot (d : Bool) (h : Fin 3) (j : Fin 8) (sm : DmaSem sig) : (rSlot d h j).view.amount (.dma sm) = N := by
  cases d <;> rfl
theorem amount_outTile (d : Bool) (j : Fin 8) (sm : DmaSem sig) : (outTile d j).view.amount (.dma sm) = N := rfl
theorem credit_sSlot (d : Bool) (j : Fin 8) : (sSlot d j).view.dmaCredit = N := by
  cases d <;> rfl
theorem credit_rSlot (d : Bool) (h : Fin 3) (j : Fin 8) : (rSlot d h j).view.dmaCredit = N := by
  cases d <;> rfl
theorem credit_outTile (d : Bool) (j : Fin 8) : (outTile d j).view.dmaCredit = N := rfl

/-! ## What a device owes -/

/-- The transfers a device has still to issue at point `k` of its program. -/
def later (k : ℕ) : Finset Hop := Finset.univ.filter fun i => k ≤ rank i

theorem mem_later {k : ℕ} {i : Hop} : i ∈ later k ↔ k ≤ rank i := by
  simp only [later, Finset.mem_filter, Finset.mem_univ, true_and]

/-- The arrivals at its neighbours a device owes at point `k` of its program. -/
def owing (c : Dev nD) (k : ℕ) : CellTallies nD τ sig Unit :=
  ∑ i ∈ later k, tallyAt (hereCell (dst i.1 c) i) () N

/-- Issuing the transfer whose turn it is pays for its arrival. -/
theorem owing_step (c : Dev nD) (i : Hop) :
    owing c (rank i) = owing c (rank i + 1) + tallyAt (hereCell (dst i.1 c) i) () N := by
  have h : later (rank i) = insert i (later (rank i + 1)) := by
    ext i'
    rw [Finset.mem_insert, mem_later, mem_later]
    constructor
    · intro hle
      rcases Nat.lt_or_ge (rank i) (rank i') with hlt | hge
      · exact .inr hlt
      · exact .inl (rank_inj (Nat.le_antisymm hge hle))
    · rintro (rfl | hlt)
      · exact le_rfl
      · omega
  rw [owing, h, Finset.sum_insert (by rw [mem_later]; omega), add_comm]
  rfl

/-- After its last transfer a device owes nothing. -/
theorem owing_done (c : Dev nD) {k : ℕ} (hk : 48 ≤ k) : owing c k = 0 := by
  have h : later k = ∅ := by
    ext i
    rw [mem_later]
    have h1 := i.2.1.isLt; have h2 := i.2.2.isLt; have h3 := Bool.toNat_le i.1
    simp only [rank, Finset.notMem_empty, iff_false]
    omega
  rw [owing, h, Finset.sum_empty]

/-- What a device owes is arrivals of transfers still to be issued. -/
theorem owing_pos {c : Dev nD} {k : ℕ} {g : GSem nD τ sig} {u : Unit} (h : 0 < owing c k g u) :
    ∃ i, k ≤ rank i ∧ g = hereCell (dst i.1 c) i := by
  by_contra hn
  have h0 : owing c k g u = 0 := by
    unfold owing
    rw [Finset.sum_apply, Finsupp.finset_sum_apply]
    refine Finset.sum_eq_zero fun i hi => ?_
    rw [tallyAt_apply, if_neg]
    exact fun h' => hn ⟨i, mem_later.mp hi, h'.1⟩
  omega

/-- What a device owes when its program starts: every arrival, and to each neighbour that it has begun. -/
def owed₁ (c : Dev nD) : CellTallies nD τ sig Unit := owing c 0 + tallyAt (barCell (dst false c)) () 1
def owed₀ (c : Dev nD) : CellTallies nD τ sig Unit := owed₁ c + tallyAt (barCell (dst true c)) () 1

theorem owed₀_pos {c : Dev nD} {g : GSem nD τ sig} {u : Unit} (h : 0 < owed₀ c g u) :
    (∃ i, g = hereCell (dst i.1 c) i) ∨ ∃ d, g = barCell (dst d c) := by
  unfold owed₀ owed₁ at h
  rw [Pi.add_apply, Finsupp.add_apply, Pi.add_apply, Finsupp.add_apply, tallyAt_apply, tallyAt_apply] at h
  by_contra hn
  rw [not_or] at hn
  rw [if_neg (fun h' => hn.2 ⟨false, h'.1⟩), if_neg (fun h' => hn.2 ⟨true, h'.1⟩)] at h
  obtain ⟨i, -, hi⟩ := owing_pos (by simpa using h)
  exact hn.1 ⟨i, hi⟩

/-! ## The order in which waiting is safe -/

/-- Every TensorCore's semaphores carry a level. -/
def levels (g : GSem nD τ sig) : Finset Unit := if g.1.2 = .tc then {()} else ∅

/-- The level of a semaphore: the arrivals of a later hop lie above those of an earlier one. -/
def level (g : GSem nD τ sig) (_ : Unit) : ℕ :=
  match role g.2 with
  | .begun => 1
  | .arrived i => 2 + i.2.1.val
  | _ => 0

theorem levels_of_ne (g : GSem nD τ sig) (h : g.1.2 ≠ .tc) : levels g = ∅ := if_neg h
theorem levels_tc (c : Dev nD) (sm : SemLoc sig) : levels ((c : Thread nD τ), sm) = {()} := if_pos rfl

theorem level_here (c : Dev nD) (i : Hop) (u : Unit) : level (hereCell c i) u = 2 + i.2.1.val := by
  simp only [level, role_recv]
theorem level_bar (c : Dev nD) (u : Unit) : level (barCell c) u = 1 := by
  simp only [level, role_bar]

end Cert.Ring

end
-- ==== Proof.Protocol.lean ====
module

public import proofs.«01_k».proof.Proof.Cells

/-!
The agreement between the devices: what each semaphore's count hands over to the device that waits for it.

The contents of what travels are a parameter here: `A c d h j` is what device `c` sends as its hop `h` of tile `j` in
direction `d`. What it is, `Values.lean` says.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-! ## The ghost state: the launch's, the semaphores' between the devices, the copies' inside a device -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## A tile of a buffer, with what it holds or with anything in it -/

/-- Device `c` has the tile `M`, holding `v`. -/
def holds (c : Dev nD) {sp : Space} (M : Memref sig .tc sp S1024x512 .f32) (v : FVec F S1024x512 .f32) : sProp 𝕄 :=
  owns (c : Thread nD τ) M fullShare v

/-- Device `c`'s tile `M` is there to be written. -/
def room (c : Dev nD) {sp : Space} (M : Memref sig .tc sp S1024x512 .f32) : sProp 𝕄 :=
  iprop(∃ f, M.view.loc (c : Thread nD τ) ↦[M.view.set]{fullShare} f)

theorem holds_room (c : Dev nD) {sp : Space} (M : Memref sig .tc sp S1024x512 .f32) (v : FVec F S1024x512 .f32) :
    holds c M v ⊢ room c M := by
  unfold holds room owns
  iintro ⟨%f, -, H⟩
  iexists f; iexact H

instance holds_storable (c : Dev nD) {sp : Space} (M : Memref sig .tc sp S1024x512 .f32) (v : FVec F S1024x512 .f32) :
    BI.Storable (upEmb : UEmb _ 𝕄) (holds c M v) := by unfold holds; infer_instance

instance room_storable (c : Dev nD) {sp : Space} (M : Memref sig .tc sp S1024x512 .f32) :
    BI.Storable (upEmb : UEmb _ 𝕄) (room (F := F) c M) := by unfold room; infer_instance

/-! ## What is handed over -/

variable (A : Dev nD → Bool → Fin 3 → Fin 8 → FVec F S1024x512 .f32)

/-- With its word that it has begun, a neighbour gives the receive slots of the direction that leads to it. -/
def begunPay (c : Dev nD) (d : Bool) : sProp 𝕄 :=
  bigSep Finset.univ fun p : Fin 3 × Fin 8 => room (dst d c) (rSlot d p.1 p.2)

/-- A transfer that has left gives its send slot back. -/
def leftPay (c : Dev nD) (i : Hop) : sProp 𝕄 := room c (sSlot i.1 i.2.2)

/-- A transfer that has arrived gives its receive slot, with what the sender sent. -/
def herePay (c : Dev nD) (i : Hop) : sProp 𝕄 := holds c (rSlot i.1 i.2.1 i.2.2) (A (dst (!i.1) c) i.1 i.2.1 i.2.2)

instance begunPay_storable (c : Dev nD) (d : Bool) : BI.Storable (upEmb : UEmb _ 𝕄) (begunPay (F := F) c d) := by
  unfold begunPay; infer_instance
instance leftPay_storable (c : Dev nD) (i : Hop) : BI.Storable (upEmb : UEmb _ 𝕄) (leftPay (F := F) c i) := by
  unfold leftPay; infer_instance
instance herePay_storable (c : Dev nD) (i : Hop) : BI.Storable (upEmb : UEmb _ 𝕄) (herePay A c i) := by
  unfold herePay; infer_instance

/-- What is due on a semaphore: a word from each neighbour, or the units of one transfer. -/
def dues : Role → Finset Bool
  | .begun => Finset.univ
  | .left _ => {false}
  | .arrived _ => {false}
  | .inside => ∅

/-- What a due hands over. -/
def pay (c : Dev nD) : Role → Bool → sProp 𝕄
  | .begun, d => begunPay c d
  | .left i, _ => leftPay c i
  | .arrived i, _ => herePay A c i
  | .inside, _ => iprop(emp)

instance pay_storable (c : Dev nD) (ro : Role) (d : Bool) : BI.Storable (upEmb : UEmb _ 𝕄) (pay A c ro d) := by
  cases ro <;> (unfold pay; infer_instance)

/-- The agreement: every semaphore is used for one round. -/
def plan : Rounds.Schedule (GSem nD τ sig) Bool 𝕄 where
  duties g r := if r = 0 ∧ g.1.2 = .tc then dues (role g.2) else ∅
  unitless _ := False
  amount g _ _ := if role g.2 = .begun then 1 else N
  payload g _ d := pay A g.1.1 (role g.2) d
  amount_pos g _ _ _ := by
    by_cases h : role g.2 = .begun
    · rw [if_pos h]; exact Nat.one_pos
    · rw [if_neg h]; exact N_pos

instance plan_storable (g : GSem nD τ sig) (r : ℕ) (d : Bool) :
    BI.Storable (upEmb : UEmb _ 𝕄) ((plan A).payload g r d) := by
  show BI.Storable upEmb (pay A g.1.1 (role g.2) d)
  infer_instance

section Plan
variable (c : Dev nD) (i : Hop)

theorem duties_bar : (plan A).duties (barCell c) 0 = Finset.univ := by
  dsimp only [plan]; rw [if_pos ⟨rfl, rfl⟩, role_bar]; rfl
theorem duties_left : (plan A).duties (leftCell c i) 0 = {false} := by
  dsimp only [plan]; rw [if_pos ⟨rfl, rfl⟩, role_send]; rfl
theorem duties_here : (plan A).duties (hereCell c i) 0 = {false} := by
  dsimp only [plan]; rw [if_pos ⟨rfl, rfl⟩, role_recv]; rfl
theorem duties_later (g : GSem nD τ sig) : ∀ r, 1 ≤ r → (plan A).duties g r = ∅ := fun r hr => by
  dsimp only [plan]; rw [if_neg fun h => by omega]

theorem amount_bar (d : Bool) : (plan A).amount (barCell c) 0 d = 1 := by
  dsimp only [plan]; rw [role_bar]; exact if_pos rfl
theorem amount_left (d : Bool) : (plan A).amount (leftCell c i) 0 d = N := by
  dsimp only [plan]; rw [role_send]; exact if_neg (by simp)
theorem amount_here (d : Bool) : (plan A).amount (hereCell c i) 0 d = N := by
  dsimp only [plan]; rw [role_recv]; exact if_neg (by simp)

theorem payload_bar (d : Bool) : (plan A).payload (barCell c) 0 d = begunPay c d := by
  dsimp only [plan]; rw [role_bar]; rfl
theorem payload_left (d : Bool) : (plan A).payload (leftCell c i) 0 d = leftPay c i := by
  dsimp only [plan]; rw [role_send]; rfl
theorem payload_here (d : Bool) : (plan A).payload (hereCell c i) 0 d = herePay A c i := by
  dsimp only [plan]; rw [role_recv]; rfl

theorem expect_bar : (plan A).expect (barCell c) 0 = 2 := by
  unfold Schedule.expect Schedule.amountOf
  rw [duties_bar, Finset.sum_congr rfl fun d _ => amount_bar A c d, Finset.sum_const, Finset.card_univ,
    Fintype.card_bool, smul_eq_mul]
theorem expect_left : (plan A).expect (leftCell c i) 0 = N := by
  unfold Schedule.expect Schedule.amountOf; rw [duties_left, Finset.sum_singleton, amount_left]
theorem expect_here : (plan A).expect (hereCell c i) 0 = N := by
  unfold Schedule.expect Schedule.amountOf; rw [duties_here, Finset.sum_singleton, amount_here]

/-- What both neighbours' words hand over. -/
theorem all_bar : bigSep ((plan A).duties (barCell c) 0 \ ∅) (fun d => (plan A).payload (barCell c) 0 d)
    = iprop(begunPay c false ∗ begunPay c true) := by
  rw [Finset.sdiff_empty, duties_bar, bigSep_univ_eq_bigSepL [false, true] (by decide) (by decide),
    bigSepL_cons_cons, bigSepL_singleton, payload_bar, payload_bar]
  rfl
theorem all_left : bigSep ((plan A).duties (leftCell c i) 0 \ ∅) (fun d => (plan A).payload (leftCell c i) 0 d)
    = leftPay c i := by
  rw [Finset.sdiff_empty, duties_left, bigSep_singleton, payload_left]
theorem all_here : bigSep ((plan A).duties (hereCell c i) 0 \ ∅) (fun d => (plan A).payload (hereCell c i) 0 d)
    = herePay A c i := by
  rw [Finset.sdiff_empty, duties_here, bigSep_singleton, payload_here]

end Plan

/-! ## Waiting is safe -/

/-- A device may wait on a semaphore that lies below every arrival it still owes. -/
theorem may_wait (c : Dev nD) (sm : SemLoc sig) (k : ℕ)
    (h : ∀ i, k ≤ rank i → level ((c : Thread nD τ), sm) () < 2 + i.2.1.val) :
    (levAts levels level : sProp 𝕄) ⊢ MayWait (c : Thread nD τ) sm () (owing c k) :=
  MayOwe.of_cut (L := levels) (lev := level) (level ((c : Thread nD τ), sm) ())
    (fun p hp => by rw [Finset.mem_singleton.mp hp, levels_tc]; exact Finset.mem_singleton_self _)
    (fun g u hg => by
      obtain ⟨i, -, rfl⟩ := owing_pos hg
      rw [levels_tc]; exact Finset.mem_singleton_self _)
    (fun p hp => by rw [Finset.mem_singleton.mp hp])
    (fun g u hg => by
      obtain ⟨i, hi, rfl⟩ := owing_pos hg
      rw [level_here]; exact h i hi)

/-- The launch's own waits come before everything a device owes. -/
theorem may_wait_start (c : Dev nD) (sm : SemLoc sig) (hs : role sm = .inside) (O : CellTallies nD τ sig Unit)
    (hO : O = owed₀ c ∨ O = 0) :
    (levAts levels level : sProp 𝕄) ⊢ MayWait (c : Thread nD τ) sm () O := by
  rcases hO with rfl | rfl
  · refine MayOwe.of_cut (L := levels) (lev := level) 0
      (fun p hp => by rw [Finset.mem_singleton.mp hp, levels_tc]; exact Finset.mem_singleton_self _)
      (fun g u hg => by
        rcases owed₀_pos hg with ⟨i, rfl⟩ | ⟨d, rfl⟩ <;> (rw [levels_tc]; exact Finset.mem_singleton_self _))
      (fun p hp => by rw [Finset.mem_singleton.mp hp]; simp only [level, hs]; exact le_rfl)
      (fun g u hg => by
        rcases owed₀_pos hg with ⟨i, rfl⟩ | ⟨d, rfl⟩
        · rw [level_here]; omega
        · rw [level_bar]; exact Nat.one_pos)
  · rw [MayWait_zero]; iintro -; iempintro

/-! ## The records every device reads -/

/-- The cells of a device between the devices: one for the words of its neighbours, and for every transfer one for its
    departure and one for its arrival. -/
abbrev Cell : Type := Unit ⊕ Bool × Hop

/-- The semaphore of a cell. -/
def cellSem : Cell → SemLoc sig
  | .inl _ => .reg barSem
  | .inr (false, i) => .dma (sendSem i.1 i.2.1 i.2.2)
  | .inr (true, i) => .dma (recvSem i.1 i.2.1 i.2.2)

/-- A device's cell. -/
abbrev cellAt (p : Dev nD × Cell) : GSem nD τ sig := ((p.1 : Thread nD τ), cellSem p.2)

/-- Every cell of every device keeps to the agreement, under the names `K`. -/
def records (K : Dev nD × Cell → ℕ) : sProp 𝕄 :=
  iprop((bigSep Finset.univ fun p => iprop(cellInv ER (plan A) (K p) (cellAt p) ∗ reached ER (cellAt p) 0))
    ∗ levAts levels level)

instance records_persistent (K : Dev nD × Cell → ℕ) : BI.Persistent (records A K) := by
  unfold records; infer_instance

/-- The record of one cell. -/
theorem records_at (K : Dev nD × Cell → ℕ) (p : Dev nD × Cell) :
    records A K ⊢ iprop(cellInv ER (plan A) (K p) (cellAt p) ∗ reached ER (cellAt p) 0) := by
  unfold records
  exact sep_elim_left.trans
    (bigSep_elim (Φ := fun p => iprop(cellInv ER (plan A) (K p) (cellAt p) ∗ reached ER (cellAt p) 0)) (Finset.mem_univ p))

/-- The levels. -/
theorem records_levels (K : Dev nD × Cell → ℕ) : records A K ⊢ levAts levels level := by
  unfold records; exact sep_elim_right

end Cert.Ring

end
-- ==== Proof.Values.lean ====
module

public import proofs.«01_k».proof.Proof.Cells

/-!
What the kernel computes: the partial sums that travel round the ring, and the finished tiles.
-/

@[expose] public section

noncomputable section

namespace Cert.Ring

open Idealize.ShloMosaic Idealize.SL.Sem
open Cert.KernelIdeal Cert.KernelIdeal.Gen

variable {F : FTy → Type} [FloatOps F]

/-- The block of rows of the left operand `x` that device `c` multiplies in round `s` for direction `d`. -/
def rowsOf (x : Vec F S4096x1024 .bf16) (c : Dev nD) (d : Bool) (s : Fin 4) : Vec F S1024x1024 .bf16 :=
  (xM.access (Rect.unit (s := S4096x1024) (off d c s) S1024x1024.size (off_inb d c s))).read (Elt F) x

/-- The tile `j` of the right operand `w`. -/
def colsOf (w : Vec F S1024x8192 .bf16) (d : Bool) (j : Fin 8) : Vec F S1024x512 .bf16 :=
  (wM.access (Rect.unit (s := S1024x8192) ![0, col d j] S1024x512.size (col_inb d j))).read (Elt F) w

variable (X : Dev nD → Vec F S4096x1024 .bf16) (W : Dev nD → Vec F S1024x8192 .bf16)

/-- The partial sum device `c` forms in round `s`: its own product, and what its neighbour formed the round before. -/
def gathered (d : Bool) (j : Fin 8) : (s : ℕ) → s < 4 → Dev nD → FVec F S1024x512 .f32
  | 0, h, c => dot (rowsOf (X c) c d ⟨0, h⟩) (colsOf (W c) d j)
  | s + 1, h, c => dotAdd (rowsOf (X c) c d ⟨s + 1, h⟩) (colsOf (W c) d j)
      (same (gathered d j s (Nat.lt_of_succ_lt h) (dst (!d) c)))

/-- What device `c` sends as hop `h`. -/
def sent (c : Dev nD) (d : Bool) (h : Fin 3) (j : Fin 8) : FVec F S1024x512 .f32 :=
  same (gathered X W d j h.val (by omega) c)

/-- The finished tile of device `c`'s result. -/
def finished (sc : Dev nD → F .f32) (c : Dev nD) (d : Bool) (j : Fin 8) : FVec F S1024x512 .f32 :=
  same (finish (sc c) (gathered X W d j 3 (by omega) c))

theorem sent_first (c : Dev nD) (d : Bool) (j : Fin 8) :
    sent X W c d 0 j = same (dot (rowsOf (X c) c d 0) (colsOf (W c) d j)) := rfl

theorem sent_pass (c : Dev nD) (d : Bool) (j : Fin 8) (h h' : Fin 3) (s : Fin 4) (hh : h'.val = h.val + 1)
    (hs : s.val = h'.val) :
    sent X W c d h' j = same (dotAdd (rowsOf (X c) c d s) (colsOf (W c) d j) (sent X W (dst (!d) c) d h j)) := by
  obtain ⟨h', hh'⟩ := h'
  obtain ⟨s, hs'⟩ := s
  dsimp only at hh hs
  subst hs
  subst hh
  rfl

theorem finished_eq (sc : Dev nD → F .f32) (c : Dev nD) (d : Bool) (j : Fin 8) :
    finished X W sc c d j
      = same (finish (sc c) (dotAdd (rowsOf (X c) c d 3) (colsOf (W c) d j) (sent X W (dst (!d) c) d 2 j))) := rfl

end Cert.Ring

end
-- ==== Proof.Moves.lean ====
module

public import proofs.«01_k».proof.Proof.Protocol
public import proofs.«01_k».proof.Proof.Values

/-!
What each elementary step of the kernel does to what a device holds: reading an operand, writing the
accumulator, copying it, sending, and receiving.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-- The kernel's program on device `c`, run from what entails it. -/
abbrev run (c : Dev nD) {α : Type} (p : Body F α) (Q : α → sProp 𝕄) : sProp 𝕄 :=
  wp frame (wpE (defs₀ (F := F)) Variants.none (c : Thread nD τ) none) Set.univ p Q

/-- A program, then the rest. -/
theorem run_then (c : Dev nD) {α β : Type} {p : Body F α} {k : α → Body F β} {P : α → sProp 𝕄} {Q : β → sProp 𝕄} :
    run c p P ⊢ iprop((∀ a, P a -∗ run c (k a) Q) -∗ run c (p >>= k) Q) := by
  unfold run
  rw [wp_bind]
  exact wp_wand frame (wpE (defs₀ (F := F)) Variants.none (c : Thread nD τ) none) Set.univ

/-- A program, then what is left to show. -/
theorem run_end (c : Dev nD) {α : Type} {p : Body F α} {P Q : α → sProp 𝕄} :
    run c p P ⊢ iprop((∀ a, P a -∗ Q a) -∗ run c p Q) :=
  wp_wand frame (wpE (defs₀ (F := F)) Variants.none (c : Thread nD τ) none) Set.univ

/-- A buffer of device `c`, whole. -/
abbrev full (c : Dev nD) (b : Ref sig .tc) (f : b.ty.Contents (Elt F)) : sProp 𝕄 :=
  ((c : Thread nD τ).loc b) ↦{fullShare} f

/-! ## The operands -/

theorem run_loadX (c : Dev nD) (d : Bool) (s : Fin 4) (x : Vec F S4096x1024 .bf16) :
    full c cc0_scratch2 x ⊢ run c (loadX c d s) (fun v => iprop(⌜v = rowsOf x c d s⌝ ∗ full c cc0_scratch2 x)) := by
  unfold loadX
  iintro Hx
  iapply (wp_load_rect Variants.none (c : Thread nD τ) none Set.univ (m := xM)
    (r := Rect.unit (s := S4096x1024) (off d c s) S1024x1024.size (off_inb d c s))
    (S := Finset.univ) (q := fullShare) (f := x) (Finset.subset_univ _)) $$ Hx
  iintro Hx
  rw [wp_ret]; imodintro
  isplitr; · ipureintro; rfl
  iexact Hx

theorem run_loadW (c : Dev nD) (d : Bool) (j : Fin 8) (w : Vec F S1024x8192 .bf16) :
    full c cc0_scratch3 w ⊢ run c (loadW d j) (fun v => iprop(⌜v = colsOf w d j⌝ ∗ full c cc0_scratch3 w)) := by
  unfold loadW
  iintro Hw
  iapply (wp_load_rect Variants.none (c : Thread nD τ) none Set.univ (m := wM)
    (r := Rect.unit (s := S1024x8192) ![0, col d j] S1024x512.size (col_inb d j))
    (S := Finset.univ) (q := fullShare) (f := w) (Finset.subset_univ _)) $$ Hw
  iintro Hw
  rw [wp_ret]; imodintro
  isplitr; · ipureintro; rfl
  iexact Hw

/-! ## A tile in fast memory -/

theorem zeros2 : (![0, 0] : Fin 2 → Nat) = fun _ => 0 := funext fun a => by fin_cases a <;> rfl

/-- Reading a tile in fast memory reads what it holds. -/
theorem run_loadT (c : Dev nD) (v : FVec F S1024x512 .f32) :
    holds c inM v ⊢ run c (loadT inM) (fun r => iprop(⌜r = v⌝ ∗ holds c inM v)) := by
  unfold loadT holds owns
  iintro ⟨%f, %hf, Hf⟩
  iapply (wp_load Variants.none (c : Thread nD τ) none Set.univ (m := inM) (View.setOn_subset_set _ _)) $$ Hf
  iintro Hf
  rw [wp_ret]; imodintro
  isplitr
  · ipureintro
    rw [← hf]
    exact Memref.readAt_unit_zero (Elt F) cc0_scratch1 zeros2 _ f
  iexists f
  isplitr; · ipureintro; exact hf
  iexact Hf

/-- Writing the accumulator. -/
theorem run_setAcc (c : Dev nD) (v : FVec F S1024x512 .f32) :
    room c accM ⊢ run c (setAcc v) (fun _ => holds c accM (same v)) := by
  unfold setAcc loadT room holds owns
  iintro ⟨%f, Hf⟩
  iapply (wp_load Variants.none (c : Thread nD τ) none Set.univ (m := accM) (View.setOn_subset_set _ _)) $$ Hf
  iintro Hf
  iapply (wp_store Variants.none (c : Thread nD τ) none Set.univ (m := accM) (r := tileR) (Mk := Finset.univ)
    (by rw [View.set_whole]; exact Finset.subset_univ _)) $$ Hf
  iintro Hf
  rw [wp_ret]; imodintro
  iexists (accM.access tileR).write (Elt F) f (same v) Finset.univ
  isplitr
  · ipureintro
    exact (View.read_whole _ _).trans (Memref.write_access_unit_zero_univ (Elt F) cc0_scratch0 zeros2 _ f (same v))
  iexact Hf

/-! ## Copies inside a device -/

/-- The accumulator is copied, and the copy is complete when it has been waited for. -/
theorem run_copyAcc (c : Dev nD) (M : Memref sig .tc .hbm S1024x512 .f32) (hM : M.view.WordExact)
    (hN : M.view.amount (.dma copySem) = N) (v : FVec F S1024x512 .f32) (O : CellTallies nD τ sig Unit) :
    iprop(holds c accM v ∗ room c M ∗ semVal ((c : Thread nD τ), .dma copySem) 0 ∗ (∃ W, owes (c : Thread nD τ) O W)
        ∗ MayWait (c : Thread nD τ) (.dma copySem) () O)
      ⊢ run c (copyAcc M hM) (fun _ => iprop(room c accM ∗ holds c M v ∗ semVal ((c : Thread nD τ), .dma copySem) 0
        ∗ ∃ W, owes (c : Thread nD τ) O W)) := by
  unfold copyAcc room holds owns
  iintro ⟨⟨%f, %hf, Hf⟩, ⟨%g, Hg⟩, Hs, ⟨%W, Ho⟩, #Hmw⟩
  iapply (wp_dmaLocal EC Variants.none (c : Thread nD τ) none () N hN N_pos (Finset.Subset.refl _)) $$ [Hf Hg Hs]
  · isplitl [Hf]; · iexact Hf
    isplitl [Hg]; · iexact Hg
    iexact Hs
  iintro Hfl
  iapply (wp_waitLocalO EC Variants.none (c : Thread nD τ) none () hN) $$ [Hfl Ho]
  · isplitl [Hfl]; · iexact Hfl
    isplitl [Ho]; · iexact Ho
    iexact Hmw
  iintro ⟨⟨Hg, Hf⟩, Hs, Ho⟩
  rw [wp_ret]; imodintro
  isplitl [Hf]; · iexists f; iexact Hf
  isplitl [Hg]
  · iexists _
    isplitr; rotate_left; · iexact Hg
    ipureintro
    rw [View.read_write_univ, ReadAs.apply_same]; exact hf
  isplitl [Hs]; · iexact Hs
  iexists _; iexact Ho

/-! ## Between devices -/

variable (A : Dev nD → Bool → Fin 3 → Fin 8 → FVec F S1024x512 .f32) (K : Dev nD × Cell → ℕ)

/-- What device `c` needs to issue a transfer: its tokens, the receiver's slot, and its place on its own two semaphores. -/
def fresh (c : Dev nD) (i : Hop) : sProp 𝕄 :=
  iprop(dutyTok ER (leftCell c i) 0 false ∗ dutyTok ER (hereCell (dst i.1 c) i) 0 false
    ∗ room (dst i.1 c) (rSlot i.1 i.2.1 i.2.2)
    ∗ atPos ER (leftCell c i) 0 ∅ 0 ∗ atPos ER (hereCell c i) 0 ∅ 0 ∗ cred (tallyAt (hereCell c i) () N))

/-- What it has once the transfer is under way. -/
def flying (c : Dev nD) (i : Hop) : sProp 𝕄 :=
  iprop(atPos ER (leftCell c i) 0 ∅ 0 ∗ atPos ER (hereCell c i) 0 ∅ 0 ∗ cred (tallyAt (hereCell c i) () N)
    ∗ cred (tallyAt (leftCell c i) () N))

/-- What it has once its own has left and its neighbour's has arrived. -/
def settled (c : Dev nD) (i : Hop) : sProp 𝕄 :=
  iprop(semVal (leftCell c i) 0 ∗ semVal (hereCell c i) 0)

/-- A transfer is issued. -/
theorem run_send (c : Dev nD) (d : Bool) (h : Fin 3) (j : Fin 8) :
    iprop(records A K ∗ holds c (sSlot d j) (A c d h j) ∗ fresh c (d, h, j)
        ∗ ∃ W, owes (c : Thread nD τ) (owing c (rank (d, h, j))) W)
      ⊢ run c (send c d h j) (fun _ => iprop(flying c (d, h, j)
        ∗ ∃ W, owes (c : Thread nD τ) (owing c (rank (d, h, j) + 1)) W)) := by
  unfold send fresh flying holds room owns
  iintro ⟨#HR, ⟨%f, %hf, Hf⟩, ⟨Ht1, Ht2, ⟨%g, Hg⟩, Hp1, Hp2, Hc⟩, ⟨%W, Ho⟩⟩
  ihave H1 := (records_at A K (c, .inr (false, (d, h, j)))) $$ HR
  ihave H2 := (records_at A K (dst d c, .inr (true, (d, h, j)))) $$ HR
  icases H1 with ⟨#HI1, #Hr1⟩
  icases H2 with ⟨#HI2, #Hr2⟩
  iapply (Rounds.wp_send_pointsTo Variants.none ER (plan A) (c : Thread nD τ) none
    (κ₁ := K (c, .inr (false, (d, h, j)))) (κ₂ := K (dst d c, .inr (true, (d, h, j))))
    (r₁ := 0) (r₂ := 0) (d₁ := false) (d₂ := false) (fd := g)
    (by rw [duties_left A c (d, h, j)]; exact Finset.mem_singleton_self _)
    (by rw [duties_here A (dst d c) (d, h, j)]; exact Finset.mem_singleton_self _)
    () () N (amount_rSlot d h j _) (amount_left A c (d, h, j) false) (amount_here A (dst d c) (d, h, j) false)
    (owing c (rank (d, h, j) + 1)) (owing_step c (d, h, j))
    (by
      rw [payload_left A c (d, h, j)]; unfold leftPay room
      iintro H; iexists f; iexact H)
    (by
      rw [payload_here A (dst d c) (d, h, j)]; unfold herePay holds owns
      iintro H; iexists _
      isplitr; rotate_left; · iexact H
      ipureintro
      rw [View.read_write_univ, hf, back_dst])) $$ [Hf Hg Ho Ht1 Ht2]
  · isplitr; · iexact HI1
    isplitr; · iexact HI2
    isplitl [Hf]; · iexact Hf
    isplitl [Hg]; · iexact Hg
    isplitl [Ho]; · iexact Ho
    isplitl [Ht1]; · iexact Ht1
    isplitr; · iexact Hr1
    isplitl [Ht2]; · iexact Ht2
    iexact Hr2
  iintro ⟨Hc', Ho⟩
  rw [wp_ret]; imodintro
  isplitr [Ho]
  · isplitl [Hp1]; · iexact Hp1
    isplitl [Hp2]; · iexact Hp2
    isplitl [Hc]; · iexact Hc
    iexact Hc'
  iexists W; iexact Ho

set_option maxHeartbeats 800000 in
/-- A transfer of the device's own has left, its neighbour's has arrived, and what arrived is in fast memory. -/
theorem run_arrive (c : Dev nD) (d : Bool) (h : Fin 3) (j : Fin 8) (w : Vec F S1024x8192 .bf16) (k : ℕ)
    (hk : 16 * (h.val + 1) ≤ k) :
    iprop(records A K ∗ flying c (d, h, j) ∗ room c inM ∗ full c cc0_scratch3 w
        ∗ semVal ((c : Thread nD τ), .dma copySem) 0 ∗ ∃ W, owes (c : Thread nD τ) (owing c k) W)
      ⊢ run c (arrive d h j) (fun p => iprop(⌜p = (colsOf w d j, A (dst (!d) c) d h j)⌝
        ∗ settled c (d, h, j) ∗ room c (sSlot d j) ∗ room c inM ∗ full c cc0_scratch3 w
        ∗ semVal ((c : Thread nD τ), .dma copySem) 0 ∗ ∃ W, owes (c : Thread nD τ) (owing c k) W)) := by
  have hlev : ∀ i : Hop, k ≤ rank i → h.val < i.2.1.val := fun i hi => by
    have h2 := i.2.2.isLt; have h3 := Bool.toNat_le i.1
    simp only [rank] at hi
    omega
  unfold arrive flying
  simp only [Prog.lift, Prog.bind_op, Prog.bind_ret, Prog.pure_eq_ret]
  iintro ⟨#HR, ⟨Hp1, Hp2, Hc2, Hc1⟩, Hin, Hw, Hs, ⟨%W, Ho⟩⟩
  ihave H1 := (records_at A K (c, .inr (false, (d, h, j)))) $$ HR
  ihave H2 := (records_at A K (c, .inr (true, (d, h, j)))) $$ HR
  ihave #Hlev := (records_levels A K) $$ HR
  icases H1 with ⟨#HI1, #Hr1⟩
  icases H2 with ⟨#HI2, #Hr2⟩
  iapply (Rounds.wp_wait_rest_token Variants.none ER (plan A) (c : Thread nD τ) none
      (κ := K (c, .inr (false, (d, h, j)))) (wpE_waitDma2_eq Variants.none (c : Thread nD τ) none Set.univ) (Set.mem_univ _)
      () (O := owing c k) (W := W) (R := 0) (m := 0) (T := ∅)
      (by rw [Nat.zero_add]; exact (credit_sSlot d j).trans (expect_left A c (d, h, j)).symm)) $$ [Hc1 Ho Hp1]
  · isplitr; · iexact HI1
    isplitl [Hc1]; · rw [credit_sSlot]; iexact Hc1
    isplitl [Ho]; · iexact Ho
    isplitr
    · iapply (may_wait c (.dma (sendSem d h j)) k (fun i hi => by simp only [level, role_send]; omega))
      iexact Hlev
    iexact Hp1
  iintro ⟨Ho, Hp1, -, Hpay⟩
  ihave Hslot := (Entails.of_eq (all_left A c (d, h, j))) $$ Hpay
  unfold leftPay
  iapply (Rounds.wp_wait_rest_token Variants.none ER (plan A) (c : Thread nD τ) none
      (κ := K (c, .inr (true, (d, h, j)))) (wpE_waitDma2_eq Variants.none (c : Thread nD τ) none Set.univ) (Set.mem_univ _)
      () (O := owing c k) (R := 0) (m := 0) (T := ∅)
      (by rw [Nat.zero_add]; exact (credit_rSlot d h j).trans (expect_here A c (d, h, j)).symm)) $$ [Hc2 Ho Hp2]
  · isplitr; · iexact HI2
    isplitl [Hc2]; · rw [credit_rSlot]; iexact Hc2
    isplitl [Ho]; · iexact Ho
    isplitr
    · iapply (may_wait c (.dma (recvSem d h j)) k (fun i hi => by
        simp only [level, role_recv]; have := hlev i hi; omega))
      iexact Hlev
    iexact Hp2
  iintro ⟨Ho, Hp2, -, Hpay⟩
  ihave Hrcv := (Entails.of_eq (all_here A c (d, h, j))) $$ Hpay
  unfold herePay holds room owns
  icases Hrcv with ⟨%f, %hf, Hf⟩
  icases Hin with ⟨%g, Hg⟩
  imod (Rounds.cell_close ER (plan A) (Set.mem_univ (K (c, .inr (false, (d, h, j))))) (fun h => h) (R := 0 + 1)
    (duties_later A (leftCell c (d, h, j)))) $$ [Hp1] with Hz1
  · isplitr; · iexact HI1
    iexact Hp1
  imod (Rounds.cell_close ER (plan A) (Set.mem_univ (K (c, .inr (true, (d, h, j))))) (fun h => h) (R := 0 + 1)
    (duties_later A (hereCell c (d, h, j)))) $$ [Hp2] with Hz2
  · isplitr; · iexact HI2
    iexact Hp2
  iapply (wp_dmaLocal EC Variants.none (c : Thread nD τ) none () N rfl N_pos (Finset.Subset.refl _)) $$ [Hf Hg Hs]
  · isplitl [Hf]; · iexact Hf
    isplitl [Hg]; · iexact Hg
    iexact Hs
  iintro Hfl
  iapply (run_then c) $$ [Hw]
  · iapply (run_loadW c d j w); iexact Hw
  iintro %v ⟨%hv, Hw⟩
  iapply (wp_waitLocalO EC Variants.none (c : Thread nD τ) none (dstw := inM) () (N := N) rfl) $$ [Hfl Ho]
  · isplitl [Hfl]; · iexact Hfl
    isplitl [Ho]; · iexact Ho
    iapply (may_wait c (.dma copySem) k (fun i hi => by simp only [level, role_copy]; omega))
    iexact Hlev
  iintro ⟨⟨Hg, Hf⟩, Hs, Ho⟩
  iapply (run_then c) $$ [Hg]
  · iapply (run_loadT c (A (dst (!d) c) d h j))
    unfold holds owns
    iexists _
    isplitr; rotate_left; · iexact Hg
    ipureintro
    rw [View.read_write_univ, ReadAs.apply_same]; exact hf
  iintro %r ⟨%hr, Hg⟩
  unfold run
  rw [wp_ret]; imodintro
  isplitr; · ipureintro; rw [hv, hr]
  unfold settled
  isplitl [Hz1 Hz2]; · isplitl [Hz1]; · iexact Hz1
                       iexact Hz2
  isplitl [Hslot]; · iexact Hslot
  ihave Hg := (holds_room c inM _) $$ Hg
  unfold room
  isplitl [Hg]; · iexact Hg
  isplitl [Hw]; · iexact Hw
  isplitl [Hs]; · iexact Hs
  iexists _; iexact Ho

end Cert.Ring

end
-- ==== Proof.Tiles.lean ====
module

public import proofs.«01_k».proof.Proof.Moves
public import Idealize.ShloMosaic.Lib.Pipeline.BigSepL

/-!
One tile's step of a round, and the rounds.

What a device holds for a tile of a direction goes through five stages: before round 0, after each of the rounds,
and finished. A round takes every tile one stage on.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (X : Dev nD → Vec F S4096x1024 .bf16) (W : Dev nD → Vec F S1024x8192 .bf16) (sc : Dev nD → F .f32)
variable (K : Dev nD × Cell → ℕ)

/-- What a device's steps share at point `k` of its program: the accumulator and the landing tile, the operands, the
    semaphore of the inner copies, and what the device owes. -/
def shared (c : Dev nD) (k : ℕ) : sProp 𝕄 :=
  iprop(room c accM ∗ room c inM ∗ full c cc0_scratch2 (X c) ∗ full c cc0_scratch3 (W c)
    ∗ semVal ((c : Thread nD τ), .dma copySem) 0 ∗ ∃ U, owes (c : Thread nD τ) (owing c k) U)

theorem rank_eq (d : Bool) (h : Fin 3) (j : Fin 8) : rank (d, h, j) = 16 * h.val + (2 * j.val + d.toNat) := by
  simp only [rank]; omega

/-! ## The three kinds of step -/

/-- The first step of a tile. -/
theorem run_first (c : Dev nD) (d : Bool) (j : Fin 8) :
    iprop(records (sent X W) K ∗ shared X W c (rank (d, 0, j)) ∗ room c (sSlot d j) ∗ fresh c (d, 0, j))
      ⊢ run c (first c (rowsOf (X c) c d 0) d j)
          (fun _ => iprop(shared X W c (rank (d, 0, j) + 1) ∗ flying c (d, 0, j))) := by
  unfold first shared
  iintro ⟨#HR, ⟨Ha, Hi, Hx, Hw, Hs, Ho⟩, Hslot, Hf⟩
  ihave #Hlev := (records_levels (sent X W) K) $$ HR
  iapply (run_then c) $$ [Hw]
  · iapply (run_loadW c d j (W c)); iexact Hw
  iintro %v ⟨%hv, Hw⟩
  subst hv
  iapply (run_then c) $$ [Ha]
  · iapply (run_setAcc c _); iexact Ha
  iintro %_ Ha
  iapply (run_then c) $$ [Ha Hslot Hs Ho]
  · iapply (run_copyAcc c (sSlot d j) (sSlot_exact d j) (amount_sSlot d j _) _ (owing c (rank (d, 0, j))))
    isplitl [Ha]; · iexact Ha
    isplitl [Hslot]; · iexact Hslot
    isplitl [Hs]; · iexact Hs
    isplitl [Ho]; · iexact Ho
    iapply (may_wait c (.dma copySem) _ (fun i hi => by simp only [level, role_copy]; omega))
    iexact Hlev
  iintro %_ ⟨Ha, Hslot, Hs, Ho⟩
  iapply (run_end c) $$ [Hslot Hf Ho]
  · iapply (run_send (sent X W) K c d 0 j)
    isplitr; · iexact HR
    isplitl [Hslot]; · rw [sent_first]; iexact Hslot
    isplitl [Hf]; · iexact Hf
    iexact Ho
  iintro %_ ⟨Hf, Ho⟩
  isplitr [Hf]
  · isplitl [Ha]; · iexact Ha
    isplitl [Hi]; · iexact Hi
    isplitl [Hx]; · iexact Hx
    isplitl [Hw]; · iexact Hw
    isplitl [Hs]; · iexact Hs
    iexact Ho
  iexact Hf

/-- A middle step of a tile. -/
theorem run_pass (c : Dev nD) (d : Bool) (j : Fin 8) (h h' : Fin 3) (s : Fin 4) (hh : h'.val = h.val + 1)
    (hs : s.val = h'.val) :
    iprop(records (sent X W) K ∗ shared X W c (rank (d, h', j)) ∗ flying c (d, h, j) ∗ fresh c (d, h', j))
      ⊢ run c (pass c (rowsOf (X c) c d s) h h' d j)
          (fun _ => iprop(shared X W c (rank (d, h', j) + 1) ∗ settled c (d, h, j) ∗ flying c (d, h', j))) := by
  unfold pass shared
  iintro ⟨#HR, ⟨Ha, Hi, Hx, Hw, Hs, Ho⟩, Hfl, Hf⟩
  ihave #Hlev := (records_levels (sent X W) K) $$ HR
  iapply (run_then c) $$ [Hfl Hi Hw Hs Ho]
  · iapply (run_arrive (sent X W) K c d h j (W c) (rank (d, h', j)) (by rw [rank_eq]; omega))
    isplitr; · iexact HR
    isplitl [Hfl]; · iexact Hfl
    isplitl [Hi]; · iexact Hi
    isplitl [Hw]; · iexact Hw
    isplitl [Hs]; · iexact Hs
    iexact Ho
  iintro %v ⟨%hv, Hz, Hslot, Hi, Hw, Hs, Ho⟩
  subst hv
  iapply (run_then c) $$ [Ha]
  · iapply (run_setAcc c _); iexact Ha
  iintro %_ Ha
  iapply (run_then c) $$ [Ha Hslot Hs Ho]
  · iapply (run_copyAcc c (sSlot d j) (sSlot_exact d j) (amount_sSlot d j _) _ (owing c (rank (d, h', j))))
    isplitl [Ha]; · iexact Ha
    isplitl [Hslot]; · iexact Hslot
    isplitl [Hs]; · iexact Hs
    isplitl [Ho]; · iexact Ho
    iapply (may_wait c (.dma copySem) _ (fun i hi => by simp only [level, role_copy]; omega))
    iexact Hlev
  iintro %_ ⟨Ha, Hslot, Hs, Ho⟩
  iapply (run_end c) $$ [Hslot Hf Ho]
  · iapply (run_send (sent X W) K c d h' j)
    isplitr; · iexact HR
    isplitl [Hslot]; · rw [sent_pass X W c d j h h' s hh hs]; iexact Hslot
    isplitl [Hf]; · iexact Hf
    iexact Ho
  iintro %_ ⟨Hf, Ho⟩
  isplitr [Hf Hz]
  · isplitl [Ha]; · iexact Ha
    isplitl [Hi]; · iexact Hi
    isplitl [Hx]; · iexact Hx
    isplitl [Hw]; · iexact Hw
    isplitl [Hs]; · iexact Hs
    iexact Ho
  isplitl [Hz]; · iexact Hz
  iexact Hf

/-- The last step of a tile. -/
theorem run_last (c : Dev nD) (d : Bool) (j : Fin 8) (k : ℕ) (hk : 48 ≤ k) :
    iprop(records (sent X W) K ∗ shared X W c k ∗ flying c (d, 2, j) ∗ room c (outTile d j))
      ⊢ run c (last (sc c) (rowsOf (X c) c d 3) d j)
          (fun _ => iprop(shared X W c (k + 1) ∗ settled c (d, 2, j) ∗ holds c (outTile d j) (finished X W sc c d j))) := by
  unfold last shared
  iintro ⟨#HR, ⟨Ha, Hi, Hx, Hw, Hs, Ho⟩, Hfl, Hf⟩
  ihave #Hlev := (records_levels (sent X W) K) $$ HR
  iapply (run_then c) $$ [Hfl Hi Hw Hs Ho]
  · iapply (run_arrive (sent X W) K c d 2 j (W c) k hk)
    isplitr; · iexact HR
    isplitl [Hfl]; · iexact Hfl
    isplitl [Hi]; · iexact Hi
    isplitl [Hw]; · iexact Hw
    isplitl [Hs]; · iexact Hs
    iexact Ho
  iintro %v ⟨%hv, Hz, -, Hi, Hw, Hs, Ho⟩
  subst hv
  iapply (run_then c) $$ [Ha]
  · iapply (run_setAcc c _); iexact Ha
  iintro %_ Ha
  iapply (run_end c) $$ [Ha Hf Hs Ho]
  · iapply (run_copyAcc c (outTile d j) (outTile_exact d j) (amount_outTile d j _) _ (owing c k))
    isplitl [Ha]; · iexact Ha
    isplitl [Hf]; · iexact Hf
    isplitl [Hs]; · iexact Hs
    isplitl [Ho]; · iexact Ho
    iapply (may_wait c (.dma copySem) _ (fun i hi => by simp only [level, role_copy]; omega))
    iexact Hlev
  iintro %_ ⟨Ha, Hf, Hs, Ho⟩
  isplitr [Hf Hz]
  · isplitl [Ha]; · iexact Ha
    isplitl [Hi]; · iexact Hi
    isplitl [Hx]; · iexact Hx
    isplitl [Hw]; · iexact Hw
    isplitl [Hs]; · iexact Hs
    rw [owing_done c hk, owing_done c (Nat.le_succ_of_le hk)]
    iexact Ho
  isplitl [Hz]; · iexact Hz
  rw [finished_eq]
  iexact Hf

/-! ## The stages of a tile -/

/-- What a device holds for a tile after `s` rounds. -/
def stage (c : Dev nD) (d : Bool) (j : Fin 8) : Fin 5 → sProp 𝕄
  | 0 => iprop(room c (sSlot d j) ∗ fresh c (d, 0, j) ∗ fresh c (d, 1, j) ∗ fresh c (d, 2, j) ∗ room c (outTile d j))
  | 1 => iprop(flying c (d, 0, j) ∗ fresh c (d, 1, j) ∗ fresh c (d, 2, j) ∗ room c (outTile d j))
  | 2 => iprop(settled c (d, 0, j) ∗ flying c (d, 1, j) ∗ fresh c (d, 2, j) ∗ room c (outTile d j))
  | 3 => iprop(settled c (d, 0, j) ∗ settled c (d, 1, j) ∗ flying c (d, 2, j) ∗ room c (outTile d j))
  | 4 => iprop(settled c (d, 0, j) ∗ settled c (d, 1, j) ∗ settled c (d, 2, j)
      ∗ holds c (outTile d j) (finished X W sc c d j))

/-- The step of round `s`. -/
def stepOf (c : Dev nD) : Fin 4 → Vec F S1024x1024 .bf16 → Bool → Fin 8 → Body F PUnit
  | 0, x => first c x
  | 1, x => pass c x 0 1
  | 2, x => pass c x 1 2
  | 3, x => last (sc c) x

/-- A tile's step of a round takes the tile one stage on. -/
theorem run_step (c : Dev nD) (s : Fin 4) (d : Bool) (j : Fin 8) (k : ℕ) (hk : k = 16 * s.val + (2 * j.val + d.toNat)) :
    iprop(records (sent X W) K ∗ shared X W c k ∗ stage X W sc c d j s.castSucc)
      ⊢ run c (stepOf sc c s (rowsOf (X c) c d s) d j)
          (fun _ => iprop(shared X W c (k + 1) ∗ stage X W sc c d j s.succ)) := by
  match s, hk with
  | 0, hk =>
    have hr : k = rank (d, 0, j) := hk.trans (rank_eq d 0 j).symm
    subst hr
    show iprop(_ ∗ _ ∗ room c (sSlot d j) ∗ fresh c (d, 0, j) ∗ fresh c (d, 1, j) ∗ fresh c (d, 2, j) ∗ room c (outTile d j))
      ⊢ run c (first c (rowsOf (X c) c d 0) d j) (fun _ => iprop(_ ∗ flying c (d, 0, j) ∗ fresh c (d, 1, j) ∗ fresh c (d, 2, j) ∗ room c (outTile d j)))
    iintro ⟨#HR, Hsh, Hslot, Hf, Hrest⟩
    iapply (run_end c) $$ [Hsh Hslot Hf]
    · iapply (run_first X W K c d j)
      isplitr; · iexact HR
      isplitl [Hsh]; · iexact Hsh
      isplitl [Hslot] <;> iassumption
    iintro %_ ⟨Hsh, Hf⟩
    isplitl [Hsh]; · iexact Hsh
    isplitl [Hf] <;> iassumption
  | 1, hk =>
    have hr : k = rank (d, 1, j) := hk.trans (rank_eq d 1 j).symm
    subst hr
    show iprop(_ ∗ _ ∗ flying c (d, 0, j) ∗ fresh c (d, 1, j) ∗ fresh c (d, 2, j) ∗ room c (outTile d j))
      ⊢ run c (pass c (rowsOf (X c) c d 1) 0 1 d j)
        (fun _ => iprop(_ ∗ settled c (d, 0, j) ∗ flying c (d, 1, j) ∗ fresh c (d, 2, j) ∗ room c (outTile d j)))
    iintro ⟨#HR, Hsh, Hfl, Hf, Hrest⟩
    iapply (run_end c) $$ [Hsh Hfl Hf]
    · iapply (run_pass X W K c d j 0 1 1 rfl rfl)
      isplitr; · iexact HR
      isplitl [Hsh]; · iexact Hsh
      isplitl [Hfl] <;> iassumption
    iintro %_ ⟨Hsh, Hz, Hf⟩
    isplitl [Hsh]; · iexact Hsh
    isplitl [Hz]; · iexact Hz
    isplitl [Hf] <;> iassumption
  | 2, hk =>
    have hr : k = rank (d, 2, j) := hk.trans (rank_eq d 2 j).symm
    subst hr
    show iprop(_ ∗ _ ∗ settled c (d, 0, j) ∗ flying c (d, 1, j) ∗ fresh c (d, 2, j) ∗ room c (outTile d j))
      ⊢ run c (pass c (rowsOf (X c) c d 2) 1 2 d j)
        (fun _ => iprop(_ ∗ settled c (d, 0, j) ∗ settled c (d, 1, j) ∗ flying c (d, 2, j) ∗ room c (outTile d j)))
    iintro ⟨#HR, Hsh, Hz0, Hfl, Hf, Hrest⟩
    iapply (run_end c) $$ [Hsh Hfl Hf]
    · iapply (run_pass X W K c d j 1 2 2 rfl rfl)
      isplitr; · iexact HR
      isplitl [Hsh]; · iexact Hsh
      isplitl [Hfl] <;> iassumption
    iintro %_ ⟨Hsh, Hz, Hf⟩
    isplitl [Hsh]; · iexact Hsh
    isplitl [Hz0]; · iexact Hz0
    isplitl [Hz]; · iexact Hz
    isplitl [Hf] <;> iassumption
  | 3, hk =>
    show iprop(_ ∗ _ ∗ settled c (d, 0, j) ∗ settled c (d, 1, j) ∗ flying c (d, 2, j) ∗ room c (outTile d j))
      ⊢ run c (last (sc c) (rowsOf (X c) c d 3) d j)
        (fun _ => iprop(_ ∗ settled c (d, 0, j) ∗ settled c (d, 1, j) ∗ settled c (d, 2, j)
          ∗ holds c (outTile d j) (finished X W sc c d j)))
    iintro ⟨#HR, Hsh, Hz0, Hz1, Hfl, Hrest⟩
    iapply (run_end c) $$ [Hsh Hfl Hrest]
    · iapply (run_last X W sc K c d j k (by rw [hk]; exact Nat.le_add_right 48 _))
      isplitr; · iexact HR
      isplitl [Hsh]; · iexact Hsh
      isplitl [Hfl] <;> iassumption
    iintro %_ ⟨Hsh, Hz, Hf⟩
    isplitl [Hsh]; · iexact Hsh
    isplitl [Hz0]; · iexact Hz0
    isplitl [Hz1]; · iexact Hz1
    isplitl [Hz] <;> iassumption

/-! ## The rounds -/

/-- A sequence of programs, each of which takes its own holdings one stage on and the shared ones from point `n` to the
    next. -/
theorem run_seqs {α : Type} (c : Dev nD) (f : α → Body F PUnit) (P Q : α → sProp 𝕄) (H : sProp 𝕄) [BI.Persistent H] :
    ∀ (l : List α) (R : ℕ → sProp 𝕄),
      (∀ n a, l[n]? = some a → iprop(H ∗ R n ∗ P a) ⊢ run c (f a) (fun _ => iprop(R (n + 1) ∗ Q a))) →
      iprop(H ∗ R 0 ∗ bigSepL l P) ⊢ run c (seqs f l) (fun _ => iprop(R l.length ∗ bigSepL l Q))
  | [], R, _ => by
    show _ ⊢ run c (Prog.ret PUnit.unit) _
    iintro ⟨#H, HR, -⟩
    unfold run
    rw [wp_ret]; imodintro
    isplitl [HR]; · iexact HR
    rw [bigSepL_nil]; iempintro
  | a :: l, R, hf => by
    rw [bigSepL_cons', bigSepL_cons']
    show _ ⊢ run c (f a >>= fun _ => seqs f l) _
    iintro ⟨#H, HR, Ha, Hl⟩
    iapply (run_then c) $$ [HR Ha]
    · iapply (hf 0 a rfl)
      isplitr; · iexact H
      isplitl [HR] <;> iassumption
    iintro %_ ⟨HR, Ha⟩
    iapply (run_end c) $$ [HR Hl]
    · iapply (run_seqs c f P Q H l (fun n => R (n + 1)) fun n b hb => hf (n + 1) b hb)
      isplitr; · iexact H
      isplitl [HR] <;> iassumption
    iintro %_ ⟨HR, Hl⟩
    isplitl [HR]; · iexact HR
    isplitl [Ha] <;> iassumption

/-- What a device holds for the two directions of a tile after `s` rounds. -/
def stages (c : Dev nD) (s : Fin 5) (j : Fin 8) : sProp 𝕄 :=
  iprop(stage X W sc c false j s ∗ stage X W sc c true j s)

theorem tiles_at (n : ℕ) (j : Fin 8) (h : tiles[n]? = some j) : j.val = n := by
  match n, h with
  | 0, h | 1, h | 2, h | 3, h | 4, h | 5, h | 6, h | 7, h => cases h; rfl

/-- A round takes every tile one stage on. -/
theorem run_round (c : Dev nD) (s : Fin 4) :
    iprop(records (sent X W) K ∗ shared X W c (16 * s.val) ∗ bigSepL tiles (stages X W sc c s.castSucc))
      ⊢ run c (round c s (stepOf sc c s))
          (fun _ => iprop(shared X W c (16 * (s.val + 1)) ∗ bigSepL tiles (stages X W sc c s.succ))) := by
  unfold round
  iintro ⟨#HR, Hsh, Ht⟩
  unfold shared
  icases Hsh with ⟨Ha, Hi, Hx, Hw, Hs, Ho⟩
  iapply (run_then c) $$ [Hx]
  · iapply (run_loadX c false s (X c)); iexact Hx
  iintro %v ⟨%hv, Hx⟩
  subst hv
  iapply (run_then c) $$ [Hx]
  · iapply (run_loadX c true s (X c)); iexact Hx
  iintro %v ⟨%hv, Hx⟩
  subst hv
  iapply (run_end c) $$ [Ha Hi Hx Hw Hs Ho Ht]
  · iapply (run_seqs c (fun j => stepOf sc c s (rowsOf (X c) c false s) false j >>= fun _ =>
        stepOf sc c s (rowsOf (X c) c true s) true j) (stages X W sc c s.castSucc) (stages X W sc c s.succ)
      (records (sent X W) K) tiles (fun n => shared X W c (16 * s.val + 2 * n)) (fun n j hj => by
        have hn := tiles_at n j hj
        unfold stages
        iintro ⟨#HR, Hsh, H0, H1⟩
        iapply (run_then c) $$ [Hsh H0]
        · iapply (run_step X W sc K c s false j (16 * s.val + 2 * n) (by rw [hn]; rfl))
          isplitr; · iexact HR
          isplitl [Hsh] <;> iassumption
        iintro %_ ⟨Hsh, H0⟩
        iapply (run_end c) $$ [Hsh H1]
        · iapply (run_step X W sc K c s true j (16 * s.val + 2 * n + 1) (by rw [hn]; rfl))
          isplitr; · iexact HR
          isplitl [Hsh] <;> iassumption
        iintro %_ ⟨Hsh, H1⟩
        isplitl [Hsh]; · iexact Hsh
        isplitl [H0] <;> iassumption))
    isplitr; · iexact HR
    isplitr [Ht]
    · unfold shared
      isplitl [Ha]; · iexact Ha
      isplitl [Hi]; · iexact Hi
      isplitl [Hx]; · iexact Hx
      isplitl [Hw]; · iexact Hw
      isplitl [Hs]; · iexact Hs
      iexact Ho
    iexact Ht
  iintro %_ ⟨Hsh, Ht⟩
  isplitl [Hsh]; · unfold shared; iexact Hsh
  iexact Ht

end Cert.Ring

end
-- ==== Proof.Begin.lean ====
module

public import proofs.«01_k».proof.Proof.Tiles

/-!
How a device begins: it tells its neighbours, waits for both of them, and converts its operands.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (A : Dev nD → Bool → Fin 3 → Fin 8 → FVec F S1024x512 .f32) (K : Dev nD × Cell → ℕ)

/-- A device's own receive slots of one direction. -/
def ownRooms (c : Dev nD) (d : Bool) : sProp 𝕄 :=
  bigSep Finset.univ fun p : Fin 3 × Fin 8 => room c (rSlot d p.1 p.2)

/-- What the neighbour a direction leads to is given with the word that this device has begun: this device's receive
    slots of the opposite direction. -/
theorem begunPay_of_own (c : Dev nD) (d : Bool) : ownRooms (F := F) c d = begunPay (dst (!d) c) d := by
  unfold ownRooms begunPay
  rw [dst_back]

/-- What a device needs to begin. -/
def opening (c : Dev nD) : sProp 𝕄 :=
  iprop(dutyTok ER (barCell (dst true c)) 0 false ∗ dutyTok ER (barCell (dst false c)) 0 true
    ∗ ownRooms c false ∗ ownRooms c true ∗ atPos ER (barCell c) 0 ∅ 0 ∗ cred (tallyAt (barCell c) () 2))

/-- The one entry of a scale. -/
def entry (M : Memref sig .tc .smem S1 .f32) (f : M.view.ty.Contents (Elt F)) : F .f32 :=
  (M.access (Rect.unit (s := S1) ![0] S1.size inb_S1_S1_0)).read (Elt F) f (Shape.Idx.first (numel1_S1.symm ▸ Nat.one_pos))

/-- The product of the two scales. -/
def scaleOf (a b : FVec F S1 .f32) : F .f32 :=
  k0_pay2 (F := F) (entry (Memref.whole cc0_stg2_0) a) (entry (Memref.whole cc0_stg3_0) b)

/-- The left operand, read whole, converted and written whole. -/
theorem writtenX (x : IVec S4096x1024 8) (f : Vec F S4096x1024 .bf16) :
    (xM.access (Rect.unit (s := S4096x1024) ![0, 0] S4096x1024.size inb_S4096x1024_S4096x1024_0_0)).write (Elt F) f
      (k0_pay3 (F := F) ((Memref.whole cc0_stg0_0).view.readAt (Elt F)
        (Rect.unit (s := S4096x1024) ![0, 0] S4096x1024.size inb_S4096x1024_S4096x1024_0_0).toLoadRect x)) Finset.univ
      = k0_pay3 (F := F) x :=
  (Memref.write_access_unit_zero_univ (Elt F) cc0_scratch2 zeros2 _ f _).trans
    (congrArg (k0_pay3 (F := F)) (Memref.readAt_unit_zero (Elt F) cc0_stg0_0 zeros2 _ x))

/-- The same of the right operand. -/
theorem writtenW (w : IVec S1024x8192 8) (f : Vec F S1024x8192 .bf16) :
    (wM.access (Rect.unit (s := S1024x8192) ![0, 0] S1024x8192.size inb_S1024x8192_S1024x8192_0_0)).write (Elt F) f
      (k0_pay4 (F := F) ((Memref.whole cc0_stg1_0).view.readAt (Elt F)
        (Rect.unit (s := S1024x8192) ![0, 0] S1024x8192.size inb_S1024x8192_S1024x8192_0_0).toLoadRect w)) Finset.univ
      = k0_pay4 (F := F) w :=
  (Memref.write_access_unit_zero_univ (Elt F) cc0_scratch3 zeros2 _ f _).trans
    (congrArg (k0_pay4 (F := F)) (Memref.readAt_unit_zero (Elt F) cc0_stg1_0 zeros2 _ w))

set_option maxHeartbeats 1000000 in
/-- The device begins. -/
theorem run_prologue (c : Dev nD) (x : IVec S4096x1024 8) (w : IVec S1024x8192 8) (a b : FVec F S1 .f32) :
    iprop(records A K ∗ opening c ∗ full c cc0_stg0_0 x ∗ full c cc0_stg1_0 w ∗ full c cc0_stg2_0 a ∗ full c cc0_stg3_0 b
        ∗ (∃ f, full c cc0_scratch2 f) ∗ (∃ f, full c cc0_scratch3 f) ∗ ∃ U, owes (c : Thread nD τ) (owed₀ c) U)
      ⊢ run c (prologue (F := F) c (Memref.whole cc0_stg0_0) (Memref.whole cc0_stg1_0) (Memref.whole cc0_stg2_0)
          (Memref.whole cc0_stg3_0))
        (fun v => iprop(⌜v = scaleOf a b⌝ ∗ begunPay c false ∗ begunPay c true ∗ semVal (barCell c) 0
          ∗ full c cc0_stg0_0 x ∗ full c cc0_stg1_0 w ∗ full c cc0_stg2_0 a ∗ full c cc0_stg3_0 b
          ∗ full c cc0_scratch2 (k0_pay3 (F := F) x) ∗ full c cc0_scratch3 (k0_pay4 (F := F) w)
          ∗ ∃ U, owes (c : Thread nD τ) (owing c 0) U)) := by
  unfold prologue opening run
  simp only [semSignalWord, semWaitWord, smemLoad, smemLoadElt, Prog.lift, Prog.bind_op, Prog.bind_ret, Prog.pure_eq_ret]
  iintro ⟨#HR, ⟨Ht1, Ht2, Hr0, Hr1, Hp, Hc⟩, Hx, Hw, Ha, Hb, ⟨%f2, Hf2⟩, ⟨%f3, Hf3⟩, ⟨%U, Ho⟩⟩
  ihave H0 := (records_at A K (c, .inl ())) $$ HR
  ihave H1 := (records_at A K (dst true c, .inl ())) $$ HR
  ihave H2 := (records_at A K (dst false c, .inl ())) $$ HR
  ihave #Hlev := (records_levels A K) $$ HR
  icases H0 with ⟨#HI0, -⟩
  icases H1 with ⟨#HI1, #Hd1⟩
  icases H2 with ⟨#HI2, #Hd2⟩
  iapply (Rounds.wp_signal Variants.none ER (plan A) (c : Thread nD τ) none (dst := (dst true c : Thread nD τ))
      (κ := K (dst true c, .inl ())) (d := false) (by rw [duties_bar]; exact Finset.mem_univ _)
      ((amount_bar A (dst true c) false).trans (by decide)) () (owed₁ c) rfl) $$ [Ho Ht1 Hr0]
  · isplitr; · iexact HI1
    isplitl [Ho]; · iexact Ho
    isplitl [Ht1]; · iexact Ht1
    isplitl [Hr0]
    · rw [payload_bar]; iapply (Entails.of_eq (begunPay_of_own c false)); iexact Hr0
    iexact Hd1
  iintro Ho
  iapply (Rounds.wp_signal Variants.none ER (plan A) (c : Thread nD τ) none (dst := (dst false c : Thread nD τ))
      (κ := K (dst false c, .inl ())) (d := true) (by rw [duties_bar]; exact Finset.mem_univ _)
      ((amount_bar A (dst false c) true).trans (by decide)) () (owing c 0) rfl) $$ [Ho Ht2 Hr1]
  · isplitr; · iexact HI2
    isplitl [Ho]; · iexact Ho
    isplitl [Ht2]; · iexact Ht2
    isplitl [Hr1]
    · rw [payload_bar]; iapply (Entails.of_eq (begunPay_of_own c true)); iexact Hr1
    iexact Hd2
  iintro Ho
  iapply (Rounds.wp_wait_rest_token Variants.none ER (plan A) (c : Thread nD τ) none (κ := K (c, .inl ()))
      (wpE_semWait_eq Variants.none (c : Thread nD τ) none Set.univ) (Set.mem_univ _) () (O := owing c 0) (W := U)
      (R := 0) (m := 0) (T := ∅) (by rw [expect_bar]; decide)) $$ [Hc Ho Hp]
  · isplitr; · iexact HI0
    isplitl [Hc]; · iexact Hc
    isplitl [Ho]; · iexact Ho
    isplitr
    · iapply (may_wait c (.reg barSem) 0 (fun i _ => by simp only [level, role_bar]; omega)); iexact Hlev
    iexact Hp
  iintro ⟨Ho, Hp, -, Hpay⟩
  ihave Hg := (Entails.of_eq (all_bar A c)) $$ Hpay
  icases Hg with ⟨Hg0, Hg1⟩
  imod (Rounds.cell_close ER (plan A) (Set.mem_univ (K (c, .inl ()))) (fun h => h) (R := 0 + 1)
    (duties_later A (barCell c))) $$ [Hp] with Hz
  · isplitr; · iexact HI0
    iexact Hp
  iapply (wp_load_rect Variants.none (c : Thread nD τ) none Set.univ (m := Memref.whole cc0_stg2_0)
    (r := Rect.unit (s := S1) ![0] S1.size inb_S1_S1_0) (S := Finset.univ) (q := fullShare) (f := a) (Finset.subset_univ _)) $$ Ha
  iintro Ha
  iapply (wp_load_rect Variants.none (c : Thread nD τ) none Set.univ (m := Memref.whole cc0_stg3_0)
    (r := Rect.unit (s := S1) ![0] S1.size inb_S1_S1_0) (S := Finset.univ) (q := fullShare) (f := b) (Finset.subset_univ _)) $$ Hb
  iintro Hb
  iapply (wp_load Variants.none (c : Thread nD τ) none Set.univ (m := Memref.whole cc0_stg0_0) (S := Finset.univ)
    (q := fullShare) (f := x) (Finset.subset_univ _)) $$ Hx
  iintro Hx
  iapply (wp_load Variants.none (c : Thread nD τ) none Set.univ (m := xM) (S := Finset.univ)
    (q := fullShare) (f := f2) (Finset.subset_univ _)) $$ Hf2
  iintro Hf2
  iapply (wp_store Variants.none (c : Thread nD τ) none Set.univ (m := xM) (Mk := Finset.univ)
    (r := Rect.unit (s := S4096x1024) ![0, 0] S4096x1024.size inb_S4096x1024_S4096x1024_0_0) (S := Finset.univ) (f := f2)
    (Finset.subset_univ _)) $$ Hf2
  iintro Hf2
  iapply (wp_load Variants.none (c : Thread nD τ) none Set.univ (m := Memref.whole cc0_stg1_0) (S := Finset.univ)
    (q := fullShare) (f := w) (Finset.subset_univ _)) $$ Hw
  iintro Hw
  iapply (wp_load Variants.none (c : Thread nD τ) none Set.univ (m := wM) (S := Finset.univ)
    (q := fullShare) (f := f3) (Finset.subset_univ _)) $$ Hf3
  iintro Hf3
  iapply (wp_store Variants.none (c : Thread nD τ) none Set.univ (m := wM) (Mk := Finset.univ)
    (r := Rect.unit (s := S1024x8192) ![0, 0] S1024x8192.size inb_S1024x8192_S1024x8192_0_0) (S := Finset.univ) (f := f3)
    (Finset.subset_univ _)) $$ Hf3
  iintro Hf3
  rw [wp_ret]; imodintro
  rw [writtenX, writtenW]
  isplitr; · ipureintro; rfl
  isplitl [Hg0]; · iexact Hg0
  isplitl [Hg1]; · iexact Hg1
  isplitl [Hz]; · iexact Hz
  isplitl [Hx]; · iexact Hx
  isplitl [Hw]; · iexact Hw
  isplitl [Ha]; · iexact Ha
  isplitl [Hb]; · iexact Hb
  isplitl [Hf2]; · iexact Hf2
  isplitl [Hf3]; · iexact Hf3
  iexists _; iexact Ho

end Cert.Ring

end
-- ==== Proof.Whole.lean ====
module

public import proofs.«01_k».proof.Proof.Begin

/-!
The whole body on one device: it begins, and the four rounds take every tile from nothing to finished.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Collections -/

theorem bigSep_bool (Φ : Bool → sProp 𝕄) : bigSep Finset.univ Φ = iprop(Φ false ∗ Φ true) :=
  bigSep_univ_eq_bigSepL [false, true] (by decide) (by decide) Φ

theorem bigSep_three (Φ : Fin 3 → sProp 𝕄) : bigSep Finset.univ Φ = iprop(Φ 0 ∗ Φ 1 ∗ Φ 2) :=
  bigSep_univ_eq_bigSepL [0, 1, 2] (by decide) (by decide) Φ

theorem bigSep_tiles (Φ : Fin 8 → sProp 𝕄) : bigSep Finset.univ Φ = bigSepL tiles Φ :=
  bigSep_univ_eq_bigSepL tiles (by decide) (by decide) Φ

/-- The transfers of a device, direction by direction and hop by hop. -/
theorem bigSep_hops (Φ : Hop → sProp 𝕄) : bigSep Finset.univ Φ
    = iprop(((bigSep Finset.univ fun j => Φ (false, 0, j)) ∗ (bigSep Finset.univ fun j => Φ (false, 1, j))
        ∗ (bigSep Finset.univ fun j => Φ (false, 2, j)))
      ∗ ((bigSep Finset.univ fun j => Φ (true, 0, j)) ∗ (bigSep Finset.univ fun j => Φ (true, 1, j))
        ∗ (bigSep Finset.univ fun j => Φ (true, 2, j)))) := by
  rw [bigSep_univ_prod, bigSep_bool, bigSep_univ_prod, bigSep_univ_prod, bigSep_three, bigSep_three]

/-- The tiles of a device, direction by direction. -/
theorem bigSep_pairs (Φ : Bool × Fin 8 → sProp 𝕄) : bigSep Finset.univ Φ
    = iprop((bigSep Finset.univ fun j => Φ (false, j)) ∗ (bigSep Finset.univ fun j => Φ (true, j))) := by
  rw [bigSep_univ_prod, bigSep_bool]

/-! ## What the tiles start from, and what they end with -/

/-- What a device has of its own for a transfer. -/
def kit (c : Dev nD) (i : Hop) : sProp 𝕄 :=
  iprop(dutyTok ER (leftCell c i) 0 false ∗ dutyTok ER (hereCell (dst i.1 c) i) 0 false
    ∗ atPos ER (leftCell c i) 0 ∅ 0 ∗ atPos ER (hereCell c i) 0 ∅ 0 ∗ cred (tallyAt (hereCell c i) () N))

/-- The slot a tile is sent from, and its place in the result. -/
def places (c : Dev nD) (p : Bool × Fin 8) : sProp 𝕄 :=
  iprop(room c (sSlot p.1 p.2) ∗ room c (outTile p.1 p.2))

/-- The slot its neighbour gave completes what a device needs for a transfer. -/
theorem fresh_one (c : Dev nD) (i : Hop) : iprop(room (dst i.1 c) (rSlot i.1 i.2.1 i.2.2) ∗ kit (F := F) c i) ⊢ fresh c i := by
  unfold kit fresh
  iintro ⟨Hr, H1, H2, H3, H4, H5⟩
  isplitl [H1]; · iexact H1
  isplitl [H2]; · iexact H2
  isplitl [Hr]; · iexact Hr
  isplitl [H3]; · iexact H3
  isplitl [H4] <;> iassumption

/-- The same for all its transfers. -/
theorem fresh_all (c : Dev nD) :
    iprop(begunPay c false ∗ begunPay c true ∗ bigSep Finset.univ (kit (F := F) c)) ⊢ bigSep Finset.univ (fresh c) := by
  have h : iprop(begunPay (F := F) c false ∗ begunPay c true)
      = bigSep Finset.univ fun i : Hop => room (dst i.1 c) (rSlot i.1 i.2.1 i.2.2) := by
    rw [bigSep_univ_prod, bigSep_bool]; rfl
  refine BIBase.Entails.trans ?_ (bigSep_mono fun i _ => fresh_one c i)
  rw [bigSep_sep', ← h]
  iintro ⟨H0, H1, H2⟩
  isplitr [H2]
  · isplitl [H0] <;> iassumption
  iexact H2

variable (X : Dev nD → Vec F S4096x1024 .bf16) (W : Dev nD → Vec F S1024x8192 .bf16) (sc : Dev nD → F .f32)

/-- Before round 0. -/
theorem stages_start (c : Dev nD) :
    iprop(bigSep Finset.univ (fresh (F := F) c) ∗ bigSep Finset.univ (places c)) ⊢ bigSepL tiles (stages X W sc c 0) := by
  rw [← bigSep_tiles, bigSep_hops, bigSep_pairs]
  simp only [← bigSep_sep']
  refine bigSep_mono fun j _ => ?_
  unfold stages places
  show _ ⊢ iprop((room c (sSlot false j) ∗ fresh c (false, 0, j) ∗ fresh c (false, 1, j) ∗ fresh c (false, 2, j)
      ∗ room c (outTile false j))
    ∗ (room c (sSlot true j) ∗ fresh c (true, 0, j) ∗ fresh c (true, 1, j) ∗ fresh c (true, 2, j) ∗ room c (outTile true j)))
  iintro ⟨⟨⟨H0, H1, H2⟩, ⟨H3, H4, H5⟩⟩, ⟨Hs0, Ho0⟩, ⟨Hs1, Ho1⟩⟩
  isplitl [H0 H1 H2 Hs0 Ho0]
  · isplitl [Hs0]; · iexact Hs0
    isplitl [H0]; · iexact H0
    isplitl [H1]; · iexact H1
    isplitl [H2] <;> iassumption
  isplitl [Hs1]; · iexact Hs1
  isplitl [H3]; · iexact H3
  isplitl [H4]; · iexact H4
  isplitl [H5] <;> iassumption

/-- After the last round. -/
theorem stages_end (c : Dev nD) :
    bigSepL tiles (stages X W sc c 4) ⊢ iprop(bigSep Finset.univ (settled (F := F) c)
      ∗ bigSep Finset.univ fun p : Bool × Fin 8 => holds c (outTile p.1 p.2) (finished X W sc c p.1 p.2)) := by
  rw [← bigSep_tiles, bigSep_hops, bigSep_pairs]
  simp only [← bigSep_sep']
  refine bigSep_mono fun j _ => ?_
  unfold stages
  show iprop((settled c (false, 0, j) ∗ settled c (false, 1, j) ∗ settled c (false, 2, j)
      ∗ holds c (outTile false j) (finished X W sc c false j))
    ∗ (settled c (true, 0, j) ∗ settled c (true, 1, j) ∗ settled c (true, 2, j)
      ∗ holds c (outTile true j) (finished X W sc c true j))) ⊢ _
  iintro ⟨⟨H0, H1, H2, Ho0⟩, ⟨H3, H4, H5, Ho1⟩⟩
  isplitr [Ho0 Ho1]
  · isplitl [H0 H1 H2]
    · isplitl [H0]; · iexact H0
      isplitl [H1] <;> iassumption
    isplitl [H3]; · iexact H3
    isplitl [H4] <;> iassumption
  isplitl [Ho0] <;> iassumption

/-! ## The four rounds -/

variable (K : Dev nD × Cell → ℕ)

/-- The rounds, for a device that has begun. -/
def rounds (c : Dev nD) (s : F .f32) : Body F PUnit := do
  round c 0 (first c)
  round c 1 fun x => pass c x 0 1
  round c 2 fun x => pass c x 1 2
  round c 3 fun x => last s x

/-- `run_round`, its stages and points named. -/
theorem run_round_at (c : Dev nD) (s : Fin 4) {k k' : ℕ} {u u' : Fin 5} (hk : 16 * s.val = k) (hk' : 16 * (s.val + 1) = k')
    (hu : s.castSucc = u) (hu' : s.succ = u') :
    iprop(records (sent X W) K ∗ shared X W c k ∗ bigSepL tiles (stages X W sc c u))
      ⊢ run c (round c s (stepOf sc c s)) (fun _ => iprop(shared X W c k' ∗ bigSepL tiles (stages X W sc c u'))) := by
  subst hk hk' hu hu'
  exact run_round X W sc K c s

/-- The rounds take every tile from before round 0 to finished. -/
theorem run_rounds (c : Dev nD) :
    iprop(records (sent X W) K ∗ shared X W c 0 ∗ bigSepL tiles (stages X W sc c 0))
      ⊢ run c (rounds c (sc c)) (fun _ => iprop(shared X W c 64 ∗ bigSepL tiles (stages X W sc c 4))) := by
  unfold rounds
  iintro ⟨#HR, Hs, Ht⟩
  iapply (run_then c) $$ [Hs Ht]
  · iapply (run_round_at X W sc K c 0 (k := 0) (k' := 16) (u := 0) (u' := 1) rfl rfl rfl rfl)
    isplitr; · iexact HR
    isplitl [Hs] <;> iassumption
  iintro %_ ⟨Hs, Ht⟩
  iapply (run_then c) $$ [Hs Ht]
  · iapply (run_round_at X W sc K c 1 (k := 16) (k' := 32) (u := 1) (u' := 2) rfl rfl rfl rfl)
    isplitr; · iexact HR
    isplitl [Hs] <;> iassumption
  iintro %_ ⟨Hs, Ht⟩
  iapply (run_then c) $$ [Hs Ht]
  · iapply (run_round_at X W sc K c 2 (k := 32) (k' := 48) (u := 2) (u' := 3) rfl rfl rfl rfl)
    isplitr; · iexact HR
    isplitl [Hs] <;> iassumption
  iintro %_ ⟨Hs, Ht⟩
  iapply (run_end c) $$ [Hs Ht]
  · iapply (run_round_at X W sc K c 3 (k := 48) (k' := 64) (u := 3) (u' := 4) rfl rfl rfl rfl)
    isplitr; · iexact HR
    isplitl [Hs] <;> iassumption
  iintro %_ H
  iexact H

/-! ## The body -/

section Whole

variable (xs : Dev nD → IVec S4096x1024 8) (ws : Dev nD → IVec S1024x8192 8) (us vs : Dev nD → FVec F S1 .f32)

/-- The left operands in bf16. -/
def lefts (c : Dev nD) : Vec F S4096x1024 .bf16 := k0_pay3 (F := F) (xs c)
/-- The right operands in bf16. -/
def rights (c : Dev nD) : Vec F S1024x8192 .bf16 := k0_pay4 (F := F) (ws c)
/-- The scales. -/
def scales (c : Dev nD) : F .f32 := scaleOf (us c) (vs c)

/-- The operands as the launch puts them into fast memory. -/
def operands (c : Dev nD) : sProp 𝕄 :=
  iprop(full c cc0_stg0_0 (xs c) ∗ full c cc0_stg1_0 (ws c) ∗ full c cc0_stg2_0 (us c) ∗ full c cc0_stg3_0 (vs c))

/-- The kernel's own fast memory. -/
def memory (c : Dev nD) : sProp 𝕄 :=
  iprop((∃ f, full (F := F) c cc0_scratch0 f) ∗ (∃ f, full (F := F) c cc0_scratch1 f) ∗ (∃ f, full (F := F) c cc0_scratch2 f)
    ∗ (∃ f, full (F := F) c cc0_scratch3 f))

/-- What a device has finished with: its semaphores at zero, and its part of the result. -/
def done (c : Dev nD) : sProp 𝕄 :=
  iprop(semVal (barCell c) 0 ∗ bigSep Finset.univ (settled (F := F) c)
    ∗ semVal ((c : Thread nD τ), .dma copySem) 0
    ∗ bigSep Finset.univ fun p : Bool × Fin 8 =>
        holds c (outTile p.1 p.2) (finished (lefts xs) (rights ws) (scales us vs) c p.1 p.2))

/-- The body on device `c`. -/
theorem run_body (c : Dev nD) :
    iprop(records (sent (lefts xs) (rights ws)) K ∗ opening c ∗ bigSep Finset.univ (kit c) ∗ bigSep Finset.univ (places c)
        ∗ semVal ((c : Thread nD τ), .dma copySem) 0 ∗ operands xs ws us vs c ∗ memory c
        ∗ ∃ U, owes (c : Thread nD τ) (owed₀ c) U)
      ⊢ run c (body (F := F) (Memref.whole cc0_stg0_0) (Memref.whole cc0_stg1_0) (Memref.whole cc0_stg2_0) (Memref.whole cc0_stg3_0))
        (fun _ => iprop(done xs ws us vs c ∗ operands xs ws us vs c ∗ memory c ∗ ∃ U, owes (c : Thread nD τ) 0 U)) := by
  unfold body operands memory done
  rw [show (Prog.lift (TpuEff.deviceId (nD := nD) (τ := τ) (sig := sig) (Val := Elt F)) : Body F (Dev nD)) = .op .deviceId .ret from rfl]
  simp only [Prog.bind_op, Prog.bind_ret, wp_deviceId]
  iintro ⟨#HR, Hop, Hk, Hpl, Hcp, ⟨Hx, Hw, Ha, Hb⟩, ⟨⟨%f0, H0⟩, ⟨%f1, H1⟩, H2, H3⟩, Ho⟩
  iapply (run_then c) $$ [Hop Hx Hw Ha Hb H2 H3 Ho]
  · iapply (run_prologue (sent (lefts xs) (rights ws)) K c (xs c) (ws c) (us c) (vs c))
    isplitr; · iexact HR
    isplitl [Hop]; · iexact Hop
    isplitl [Hx]; · iexact Hx
    isplitl [Hw]; · iexact Hw
    isplitl [Ha]; · iexact Ha
    isplitl [Hb]; · iexact Hb
    isplitl [H2]; · iexact H2
    isplitl [H3] <;> iassumption
  iintro %v ⟨%hv, Hg0, Hg1, Hz, Hx, Hw, Ha, Hb, H2, H3, Ho⟩
  subst hv
  ihave Hf := (fresh_all c) $$ [Hg0 Hg1 Hk]
  · isplitl [Hg0]; · iexact Hg0
    isplitl [Hg1] <;> iassumption
  ihave Ht := (stages_start (lefts xs) (rights ws) (scales us vs) c) $$ [Hf Hpl]
  · isplitl [Hf] <;> iassumption
  iapply (run_end c) $$ [H0 H1 H2 H3 Hcp Ho Ht]
  · iapply (run_rounds (lefts xs) (rights ws) (scales us vs) K c)
    isplitr; · iexact HR
    isplitr [Ht]
    · unfold shared room
      isplitl [H0]; · iexists f0; rw [View.set_whole]; iexact H0
      isplitl [H1]; · iexists f1; rw [View.set_whole]; iexact H1
      isplitl [H2]; · iexact H2
      isplitl [H3]; · iexact H3
      isplitl [Hcp] <;> iassumption
    iexact Ht
  iintro %_ ⟨Hs, Ht⟩
  unfold shared room
  icases Hs with ⟨⟨%g0, H0⟩, ⟨%g1, H1⟩, H2, H3, Hcp, Ho⟩
  rw [View.set_whole, View.set_whole]
  ihave He := (stages_end (lefts xs) (rights ws) (scales us vs) c) $$ Ht
  icases He with ⟨Hse, Hout⟩
  isplitl [Hz Hse Hcp Hout]
  · isplitl [Hz]; · iexact Hz
    isplitl [Hse]; · iexact Hse
    isplitl [Hcp] <;> iassumption
  isplitl [Hx Hw Ha Hb]
  · isplitl [Hx]; · iexact Hx
    isplitl [Hw]; · iexact Hw
    isplitl [Ha] <;> iassumption
  isplitl [H0 H1 H2 H3]
  · isplitl [H0]; · iexists g0; iexact H0
    isplitl [H1]; · iexists g1; iexact H1
    isplitl [H2]; · iexists _; iexact H2
    iexists _; iexact H3
  rw [owing_done c (by omega)]
  iexact Ho

end Whole

end Cert.Ring

end
-- ==== Proof.Slots.lean ====
module

public import proofs.«01_k».proof.Proof.Whole
public import Idealize.ShloMosaic.Lib.ViewIndex

/-!
The arrays in slow memory, cut into the slots and the tiles that the transfers fill.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-- An array held whole is held in pairwise disjoint pieces; what no piece covers is dropped. -/
theorem cut {T : Type} [Fintype T] [DecidableEq T] (c : Dev nD) (b : Ref sig .tc)
    (P : T → Finset (Idx ((c : Thread nD τ).loc b))) (hd : ∀ t t', t ≠ t' → Disjoint (P t) (P t'))
    (f : b.ty.Contents (Elt F)) :
    full c b f ⊢ (bigSep Finset.univ fun t => iprop(∃ g, ((c : Thread nD τ).loc b) ↦[P t]{fullShare} g) : sProp 𝕄) := by
  have h1 := pointsTo_split_subset (Ix := Unit) (Name := ℕ) (U := UU) (Lvl := ℕ) (ℓ := (c : Thread nD τ).loc b) (q := fullShare) (f := f)
    (I := Finset.univ.biUnion P) (S := Finset.univ) (Finset.subset_univ _)
  refine (h1.1.trans sep_elim_left).trans ?_
  rw [pointsTo_biUnion Finset.univ P fun t _ t' _ h => hd t t' h]
  exact bigSep_mono fun t _ => exists_intro (Φ := fun g => ((c : Thread nD τ).loc b) ↦[P t]{fullShare} g) f

theorem sSlots_apart (d : Bool) (j j' : Fin 8) (h : j ≠ j') : Disjoint (sSlot d j).view.set (sSlot d j').view.set := by
  have hj : j.val ≠ j'.val := fun e => h (Fin.ext e)
  unfold sSlot
  rw [Memref.set_view_squeeze, Memref.set_view_squeeze]
  refine View.disjoint_slice (Rect.disjoint_of_separated _ _ (0 : Fin 3) ?_)
  show (1 = 0 ∨ j.val + 1 * (1 - 1) < j'.val) ∨ (1 = 0 ∨ j'.val + 1 * (1 - 1) < j.val)
  omega

theorem rSlots_apart (d : Bool) (p p' : Fin 3 × Fin 8) (h : p ≠ p') :
    Disjoint (rSlot d p.1 p.2).view.set (rSlot d p'.1 p'.2).view.set := by
  unfold rSlot
  rw [Memref.set_view_squeeze, Memref.set_view_squeeze]
  by_cases h1 : p.1 = p'.1
  · have hj : p.2.val ≠ p'.2.val := fun e => h (Prod.ext h1 (Fin.ext e))
    refine View.disjoint_slice (Rect.disjoint_of_separated _ _ (1 : Fin 4) ?_)
    show (1 = 0 ∨ p.2.val + 1 * (1 - 1) < p'.2.val) ∨ (1 = 0 ∨ p'.2.val + 1 * (1 - 1) < p.2.val)
    omega
  · have hj : p.1.val ≠ p'.1.val := fun e => h1 (Fin.ext e)
    refine View.disjoint_slice (Rect.disjoint_of_separated _ _ (0 : Fin 4) ?_)
    show (1 = 0 ∨ p.1.val + 1 * (1 - 1) < p'.1.val) ∨ (1 = 0 ∨ p'.1.val + 1 * (1 - 1) < p.1.val)
    omega

/-- Two tiles of the result have columns apart. -/
theorem cols_apart (p p' : Bool × Fin 8) (h : p ≠ p') :
    col p.1 p.2 + 511 < col p'.1 p'.2 ∨ col p'.1 p'.2 + 511 < col p.1 p.2 := by
  obtain ⟨d, j⟩ := p
  obtain ⟨d', j'⟩ := p'
  have hj := j.isLt; have hj' := j'.isLt
  cases d <;> cases d' <;> simp only [col]
  · have : j.val ≠ j'.val := fun e => h (Prod.ext rfl (Fin.ext e))
    omega
  · omega
  · omega
  · have : j.val ≠ j'.val := fun e => h (Prod.ext rfl (Fin.ext e))
    omega

theorem outTiles_apart (p p' : Bool × Fin 8) (h : p ≠ p') :
    Disjoint (outTile p.1 p.2).view.set (outTile p'.1 p'.2).view.set := by
  refine View.disjoint_slice (Rect.disjoint_of_separated _ _ (1 : Fin 2) ?_)
  show (512 = 0 ∨ col p.1 p.2 + 1 * (512 - 1) < col p'.1 p'.2) ∨ (512 = 0 ∨ col p'.1 p'.2 + 1 * (512 - 1) < col p.1 p.2)
  have := cols_apart p p' h
  omega

/-- The five arrays the kernel leaves in slow memory: the result, and the send and receive arrays of the directions. -/
def arrays (c : Dev nD) (m : (b : Ref sig .tc) → b.ty.Contents (Elt F)) : sProp 𝕄 :=
  iprop(full c main_v1_0 (m main_v1_0) ∗ full c main_v1_1 (m main_v1_1) ∗ full c main_v1_2 (m main_v1_2)
    ∗ full c main_v1_3 (m main_v1_3) ∗ full c main_v1_4 (m main_v1_4))

/-- They hold all the places and all the receive slots. -/
theorem arrays_cut (c : Dev nD) (m : (b : Ref sig .tc) → b.ty.Contents (Elt F)) :
    arrays c m ⊢ iprop(bigSep Finset.univ (places c) ∗ ownRooms c false ∗ ownRooms c true) := by
  unfold arrays places ownRooms
  rw [bigSep_sep', bigSep_pairs fun p : Bool × Fin 8 => room (F := F) c (sSlot p.1 p.2)]
  iintro ⟨H0, H1, H2, H3, H4⟩
  isplitl [H0 H1 H3]
  · isplitl [H1 H3]
    · isplitl [H1]
      · iapply (cut c main_v1_1 (fun j => (sSlot false j).view.set) (sSlots_apart false) (m main_v1_1)); iexact H1
      iapply (cut c main_v1_3 (fun j => (sSlot true j).view.set) (sSlots_apart true) (m main_v1_3)); iexact H3
    iapply (cut c main_v1_0 (fun p : Bool × Fin 8 => (outTile p.1 p.2).view.set) outTiles_apart (m main_v1_0)); iexact H0
  isplitl [H2]
  · iapply (cut c main_v1_2 (fun p : Fin 3 × Fin 8 => (rSlot false p.1 p.2).view.set) (rSlots_apart false) (m main_v1_2)); iexact H2
  iapply (cut c main_v1_4 (fun p : Fin 3 × Fin 8 => (rSlot true p.1 p.2).view.set) (rSlots_apart true) (m main_v1_4)); iexact H4

end Cert.Ring

end
-- ==== Proof.Deal.lean ====
module

public import proofs.«01_k».proof.Proof.Slots

/-!
What the launch deals out: the agreement is set up on every semaphore between the devices, and each device gets the
right to the words and transfers it will pay for, and its position at the semaphores it waits on.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

theorem bigSep_unit (Φ : Unit → sProp 𝕄) : bigSep Finset.univ Φ = Φ () :=
  bigSep_univ_eq_bigSepL [()] (by decide) (by decide) Φ

/-! ## The cells and the tokens, each listed once -/

/-- What a cell counts. -/
def cellRole : Cell → Role
  | .inl _ => .begun
  | .inr (false, i) => .left i
  | .inr (true, i) => .arrived i

theorem role_cell : ∀ k : Cell, role (cellSem k) = cellRole k
  | .inl _ => role_bar
  | .inr (false, i) => role_send i.1 i.2.1 i.2.2
  | .inr (true, i) => role_recv i.1 i.2.1 i.2.2

theorem cellRole_inj : Function.Injective cellRole := by
  rintro (_ | ⟨_ | _, i⟩) (_ | ⟨_ | _, i'⟩) h <;> simp_all [cellRole]

theorem cellSem_inj : Function.Injective cellSem := fun k k' h =>
  cellRole_inj (by rw [← role_cell, ← role_cell, h])

theorem cellAt_inj : Function.Injective cellAt := by
  rintro ⟨c, k⟩ ⟨c', k'⟩ h
  exact Prod.ext (congrArg (fun g : GSem nD τ sig => g.1.1) h) (cellSem_inj (congrArg Prod.snd h))

/-- All cells of all devices. -/
def ringCells : Finset (GSem nD τ sig) := Finset.univ.map ⟨cellAt, cellAt_inj⟩

/-- What falls due on a device's cells: two words, and each transfer's departure and arrival. -/
abbrev Due : Type := Bool ⊕ Bool × Hop

/-- The cell of a due. -/
def dueCell : Due → Cell
  | .inl _ => .inl ()
  | .inr p => .inr p

/-- Which of its cell's dues it is. -/
def dueName : Due → Bool
  | .inl b => b
  | .inr _ => false

/-- The right to pay a due. -/
def tokAt (p : Dev nD × Due) : GSem nD τ sig × ℕ × Bool := (cellAt (p.1, dueCell p.2), 0, dueName p.2)

theorem tokAt_inj : Function.Injective tokAt := by
  rintro ⟨c, t⟩ ⟨c', t'⟩ h
  have h1 := cellAt_inj (congrArg Prod.fst h)
  have h2 : dueName t = dueName t' := congrArg (fun x : GSem nD τ sig × ℕ × Bool => x.2.2) h
  have h3 : dueCell t = dueCell t' := congrArg Prod.snd h1
  have h4 : c = c' := congrArg Prod.fst h1
  refine Prod.ext h4 ?_
  rcases t with b | p <;> rcases t' with b' | p' <;> simp_all [dueCell, dueName]

/-- All rights on all devices. -/
def ringToks : Finset (GSem nD τ sig × ℕ × Bool) := Finset.univ.map ⟨tokAt, tokAt_inj⟩

variable (A : Dev nD → Bool → Fin 3 → Fin 8 → FVec F S1024x512 .f32)

/-! ## What each device starts with -/

/-- The rights on a device's own cells. -/
def ownToks (c : Dev nD) : sProp 𝕄 :=
  iprop((dutyTok ER (barCell c) 0 false ∗ dutyTok ER (barCell c) 0 true)
    ∗ (bigSep Finset.univ fun i : Hop => dutyTok ER (leftCell c i) 0 false)
    ∗ (bigSep Finset.univ fun i : Hop => dutyTok ER (hereCell c i) 0 false))

/-- A device's positions at its own cells. -/
def positions (c : Dev nD) : sProp 𝕄 :=
  iprop(atPos ER (barCell c) 0 ∅ 0 ∗ (bigSep Finset.univ fun i : Hop => atPos ER (leftCell c i) 0 ∅ 0)
    ∗ (bigSep Finset.univ fun i : Hop => atPos ER (hereCell c i) 0 ∅ 0))

/-- What comes to device `c` first: its cells' states, that they are at round 0, its positions and the rights on them. -/
def minted (c : Dev nD) : sProp 𝕄 :=
  iprop((bigSep Finset.univ fun k : Cell => roundState ER (plan A) (cellAt (c, k)) 0)
    ∗ (bigSep Finset.univ fun k : Cell => reached ER (cellAt (c, k)) 0) ∗ positions c ∗ ownToks c)

/-- A collection over a device's cells, by kind. -/
theorem bigSep_cells (Φ : Cell → sProp 𝕄) : bigSep Finset.univ Φ
    = iprop(Φ (.inl ()) ∗ (bigSep Finset.univ fun i : Hop => Φ (.inr (false, i)))
      ∗ (bigSep Finset.univ fun i : Hop => Φ (.inr (true, i)))) := by
  rw [bigSep_univ_sum, bigSep_unit, bigSep_univ_prod, bigSep_bool]
  rfl

/-- The start of all cells at once. -/
theorem fund_ring : BI.own (ER (initOf ringCells ringToks)) ⊢ (|==> bigSep Finset.univ (minted A) : sProp 𝕄) := by
  have hX (Φ : GSem nD τ sig → sProp 𝕄) : bigSep ringCells Φ
      = bigSep Finset.univ fun c : Dev nD => bigSep Finset.univ fun k : Cell => Φ (cellAt (c, k)) := by
    unfold ringCells; rw [bigSep_map, bigSep_univ_prod]; rfl
  have hP : (bigSep Finset.univ fun c : Dev nD => bigSep Finset.univ fun k : Cell => atPos ER (cellAt (c, k)) 0 ∅ 0)
      = (bigSep Finset.univ positions : sProp 𝕄) := bigSep_congr fun c _ => by rw [bigSep_cells]; rfl
  have hT : bigSep ringToks (fun x => (dutyTok ER x.1 x.2.1 x.2.2 : sProp 𝕄)) = bigSep Finset.univ ownToks := by
    unfold ringToks
    rw [bigSep_map, bigSep_univ_prod]
    refine bigSep_congr fun c _ => ?_
    rw [bigSep_univ_sum, bigSep_bool, bigSep_univ_prod, bigSep_bool]; rfl
  iintro HX
  imod (Rounds.fund ER (plan A) ringCells ringToks) $$ HX with ⟨Hs, Hr, Hp, Ht⟩
  imodintro
  ihave Hs := (Entails.of_eq (hX fun g => roundState ER (plan A) g 0)) $$ Hs
  ihave Hr := (Entails.of_eq (hX fun g => reached ER g 0)) $$ Hr
  ihave Hp := (Entails.of_eq ((hX fun g => atPos ER g 0 ∅ 0).trans hP)) $$ Hp
  ihave Ht := (Entails.of_eq hT) $$ Ht
  unfold minted; simp only [bigSep_sep']
  isplitl [Hs]; · iexact Hs
  isplitl [Hr]; · iexact Hr
  isplitl [Hp] <;> iassumption

/-! ## The semaphores -/

/-- The kernel's own semaphores: the one of the copies inside a device, and those of the transfers. -/
def ownSem : Cell → SemLoc sig
  | .inl _ => .dma copySem
  | .inr p => cellSem (.inr p)

theorem ownSem_role : ∀ k : Cell, role (ownSem k) = match k with | .inl _ => .inside | .inr p => cellRole (.inr p)
  | .inl _ => role_copy
  | .inr p => role_cell (.inr p)

theorem ownSem_inj : Function.Injective ownSem := by
  intro k k' h
  have h1 := congrArg role h
  rw [ownSem_role, ownSem_role] at h1
  rcases k with _ | ⟨_ | _, i⟩ <;> rcases k' with _ | ⟨_ | _, i'⟩ <;> simp_all [cellRole]

theorem send_scoped (d : Bool) (h : Fin 3) (j : Fin 8) : (SemLoc.dma (sendSem d h j) : SemLoc sig).isScoped .tc = true := by
  cases d <;> revert h j <;> decide
theorem recv_scoped (d : Bool) (h : Fin 3) (j : Fin 8) : (SemLoc.dma (recvSem d h j) : SemLoc sig).isScoped .tc = true := by
  cases d <;> revert h j <;> decide

/-- The semaphores the launch itself waits on are none of them. -/
theorem stage_role : ∀ w s, role (.dma ((cfg0.spec w).sem s)) = .inside := by decide

theorem copy_stage : ∀ w s, (SemLoc.dma copySem : SemLoc sig) ≠ .dma ((cfg0.spec w).sem s) := by decide

theorem ownSemFacts : Pipeline.OwnSemFacts cfg0.spec ownSem where
  isScoped := fun
    | .inl () => by decide
    | .inr (false, i) => send_scoped i.1 i.2.1 i.2.2
    | .inr (true, i) => recv_scoped i.1 i.2.1 i.2.2
  inj := ownSem_inj
  disj := fun k w s h => by
    rcases k with _ | p
    · exact copy_stage w s h
    · have h1 := congrArg role h
      rw [stage_role, ownSem_role] at h1
      rcases p with ⟨_ | _, i⟩ <;> simp [cellRole] at h1

abbrev ownSems (c : Dev nD) : sProp 𝕄 :=
  Pipeline.ownSems0 (Ix := Unit) (Name := ℕ) (U := UU) (Lvl := ℕ) (Val := Elt F) (τ := τ) ownSem c

/-- They are the copies' semaphore, and those of the departures and arrivals. -/
theorem ownSems_eq (c : Dev nD) : ownSems (F := F) c
    = iprop(semVal ((c : Thread nD τ), .dma copySem) 0 ∗ (bigSep Finset.univ fun i : Hop => semVal (leftCell c i) 0)
      ∗ (bigSep Finset.univ fun i : Hop => semVal (hereCell c i) 0)) := by
  unfold ownSems Pipeline.ownSems0
  rw [bigSep_cells]; rfl

/-- The semaphore of the neighbours' words is the only one the launch does not clear. -/
theorem unscopedSems_eq (c : Dev nD) : (unscopedSems0 c : sProp 𝕄) = semVal (barCell c) 0 := by
  unfold unscopedSems0; rw [bigSep_eq_bigSepL_of_eq [SemLoc.reg barSem] (by decide) (by decide)]; rfl

/-- All of a device's semaphores, at zero: its cells and the copies' semaphore. -/
theorem sems_split (c : Dev nD) : iprop(ownSems (F := F) c ∗ unscopedSems0 c)
    ⊢ iprop(semVal ((c : Thread nD τ), .dma copySem) 0 ∗ bigSep Finset.univ fun k : Cell => semVal (cellAt (c, k)) 0) := by
  rw [ownSems_eq, unscopedSems_eq, bigSep_cells]
  iintro ⟨⟨Hc, Hl, Hh⟩, Hb⟩
  isplitl [Hc]; · iexact Hc
  isplitl [Hb]; · iexact Hb
  isplitl [Hl]; · iexact Hl
  iexact Hh

/-- Each cell's agreement is put in force. -/
theorem cells_alloc (c : Dev nD) :
    iprop((bigSep Finset.univ fun k : Cell => semVal (cellAt (c, k)) 0)
        ∗ bigSep Finset.univ fun k : Cell => roundState ER (plan A) (cellAt (c, k)) 0)
      ⊢ (|={Set.univ}=> bigSep Finset.univ fun k : Cell => iprop(∃ κ : ℕ, cellInv ER (plan A) κ (cellAt (c, k))) : sProp 𝕄) := by
  rw [← bigSep_sep']
  exact (bigSep_mono fun k _ => (Rounds.body_intro ER (plan A) (cellAt (c, k))).trans inv_alloc).trans (bigSep_fupd _ _)

/-- What device `c` has then. -/
def setUp (c : Dev nD) : sProp 𝕄 :=
  iprop((bigSep Finset.univ fun k : Cell => iprop(∃ κ : ℕ, cellInv ER (plan A) κ (cellAt (c, k))))
    ∗ (bigSep Finset.univ fun k : Cell => reached ER (cellAt (c, k)) 0)
    ∗ semVal ((c : Thread nD τ), .dma copySem) 0 ∗ positions c ∗ ownToks c)

theorem device_alloc (c : Dev nD) : iprop(ownSems c ∗ unscopedSems0 c ∗ minted A c) ⊢ |={Set.univ}=> setUp A c := by
  unfold minted setUp
  iintro ⟨Ho, Hu, Hs, Hr, Hp, Ht⟩
  ihave Hv := (sems_split (F := F) c) $$ [Ho Hu]
  · isplitl [Ho]; · iexact Ho
    iexact Hu
  icases Hv with ⟨Hc, Hv⟩
  imod (cells_alloc A c) $$ [Hv Hs] with HI
  · isplitl [Hv] <;> iassumption
  imodintro
  isplitl [HI]; · iexact HI
  isplitl [Hr]; · iexact Hr
  isplitl [Hc]; · iexact Hc
  isplitl [Hp] <;> iassumption

/-! ## The rights go to the devices that pay -/

/-- The rights device `c` uses: a word to either neighbour, and the departure and the arrival of its transfers. -/
def payToks (c : Dev nD) : sProp 𝕄 :=
  iprop((dutyTok ER (barCell (dst true c)) 0 false ∗ dutyTok ER (barCell (dst false c)) 0 true)
    ∗ (bigSep Finset.univ fun i : Hop => dutyTok ER (leftCell c i) 0 false)
    ∗ (bigSep Finset.univ fun i : Hop => dutyTok ER (hereCell (dst i.1 c) i) 0 false))

/-- The rights to the arrivals, each moved one step against its direction. -/
theorem here_around :
    (bigSep Finset.univ fun c : Dev nD => bigSep Finset.univ fun i : Hop => (dutyTok ER (hereCell c i) 0 false : sProp 𝕄))
      = bigSep Finset.univ fun c : Dev nD => bigSep Finset.univ fun i : Hop => dutyTok ER (hereCell (dst i.1 c) i) 0 false := by
  rw [bigSep_univ_comm, bigSep_univ_comm fun (c : Dev nD) (i : Hop) => (dutyTok ER (hereCell (dst i.1 c) i) 0 false : sProp 𝕄)]
  exact bigSep_congr fun i _ => bigSep_univ_equiv (turn i.1) fun c : Dev nD => (dutyTok ER (hereCell c i) 0 false : sProp 𝕄)

/-- The rights to a word, moved one step. -/
theorem bar_around (d e : Bool) :
    (bigSep Finset.univ fun c : Dev nD => (dutyTok ER (barCell c) 0 e : sProp 𝕄))
      = bigSep Finset.univ fun c : Dev nD => dutyTok ER (barCell (dst d c)) 0 e :=
  bigSep_univ_equiv (turn d) fun c : Dev nD => (dutyTok ER (barCell c) 0 e : sProp 𝕄)

theorem toks_around : (bigSep Finset.univ (ownToks (F := F)) : sProp 𝕄) = bigSep Finset.univ payToks := by
  unfold ownToks payToks
  simp only [bigSep_sep']
  rw [here_around, bar_around true false, bar_around false true]

/-- What a device has once all are set up. -/
def dealt (c : Dev nD) : sProp 𝕄 :=
  iprop((∃ K : Dev nD × Cell → ℕ, bigSep Finset.univ fun p => iprop(cellInv ER (plan A) (K p) (cellAt p) ∗ reached ER (cellAt p) 0))
    ∗ semVal ((c : Thread nD τ), .dma copySem) 0 ∗ positions c ∗ payToks c)

/-- All devices' agreements are known to all, and the rights are where they are used. -/
theorem deal : (bigSep Finset.univ (setUp A) : sProp 𝕄) ⊢ bigSep Finset.univ (dealt A) := by
  have hd : (bigSep Finset.univ fun c : Dev nD => iprop(semVal ((c : Thread nD τ), .dma copySem) 0 ∗ positions c ∗ payToks (F := F) c))
      = iprop((bigSep Finset.univ fun c : Dev nD => semVal ((c : Thread nD τ), .dma copySem) 0) ∗ bigSep Finset.univ positions
        ∗ bigSep Finset.univ payToks) := by simp only [bigSep_sep']
  unfold setUp dealt
  rw [bigSep_sep', bigSep_sep', bigSep_sep', bigSep_sep', toks_around,
    ← bigSep_univ_prod (fun p : Dev nD × Cell => iprop(∃ κ : ℕ, cellInv ER (plan A) κ (cellAt p))),
    ← bigSep_univ_prod (fun p : Dev nD × Cell => (reached ER (cellAt p) 0 : sProp 𝕄))]
  iintro ⟨HI, #HR, Hc, Hp, Ht⟩
  ihave HK := (BI.bigSep_exists_pi Finset.univ (fun (p : Dev nD × Cell) (κ : ℕ) => (cellInv ER (plan A) κ (cellAt p) : sProp 𝕄))) $$ HI
  icases HK with ⟨%K, #HI⟩
  iapply (bigSep_with_persistent
    (R := iprop(∃ K : Dev nD × Cell → ℕ, bigSep Finset.univ fun p => iprop(cellInv ER (plan A) (K p) (cellAt p) ∗ reached ER (cellAt p) 0)))
    (Φ := fun c : Dev nD => iprop(semVal ((c : Thread nD τ), .dma copySem) 0 ∗ positions c ∗ payToks (F := F) c))
    fun c _ => BIBase.Entails.rfl)
  isplitr
  · iexists K
    rw [bigSep_sep']
    isplitr; · iexact HI
    iexact HR
  rw [hd]
  isplitl [Hc]; · iexact Hc
  isplitl [Hp] <;> iassumption

/-- The setting up of all devices at once. -/
theorem deal_all : (bigSep Finset.univ fun c => iprop(ownSems c ∗ unscopedSems0 c ∗ minted A c) : sProp 𝕄)
    ⊢ |={Set.univ}=> bigSep Finset.univ (dealt A) :=
  ((bigSep_mono fun c _ => device_alloc A c).trans (bigSep_fupd _ _)).trans (BI.fupd_mono (deal A))

/-! ## The credits of what neighbours owe -/

theorem here_ne_bar (c c' : Dev nD) (i : Hop) : hereCell c i ≠ barCell c' := fun h => by
  have := congrArg (fun g : GSem nD τ sig => role g.2) h
  simp only [role_recv, role_bar] at this
  cases this

/-- A sum over all devices may be taken one step around the ring. -/
theorem sum_around (d : Bool) (f : Dev nD → ℕ) : ∑ c, f (dst d c) = ∑ c, f c := Equiv.sum_comp (turn d) f

/-- What one device owes on a cell. -/
theorem owed_one (d : Dev nD) (g : GSem nD τ sig) : owed₀ d g () = (∑ i : Hop, if g = hereCell (dst i.1 d) i then N else 0)
    + (if g = barCell (dst false d) then 1 else 0) + if g = barCell (dst true d) then 1 else 0 := by
  unfold owed₀ owed₁ owing
  rw [Pi.add_apply, Finsupp.add_apply, Pi.add_apply, Finsupp.add_apply, Finset.sum_apply, Finsupp.finset_sum_apply,
    show later 0 = Finset.univ from Finset.filter_true_of_mem fun i _ => Nat.zero_le _]
  simp only [tallyAt_apply, and_true]

/-- What all devices together owe on a cell. -/
theorem owed_total (g : GSem nD τ sig) : ∑ d, owed₀ d g ()
    = (∑ i : Hop, ∑ d, if g = hereCell d i then N else 0) + (∑ d, if g = barCell d then 1 else 0)
      + ∑ d, if g = barCell d then 1 else 0 := by
  rw [Finset.sum_congr rfl fun d _ => owed_one d g, Finset.sum_add_distrib, Finset.sum_add_distrib, Finset.sum_comm,
    Finset.sum_congr rfl fun i _ => sum_around i.1 fun d => if g = hereCell d i then N else 0,
    sum_around false fun d => if g = barCell d then 1 else 0, sum_around true fun d => if g = barCell d then 1 else 0]

/-- On a device's cell for the words: two. -/
theorem owed_bar (c : Dev nD) : ∑ d, owed₀ d (barCell c) () = 2 := by
  have h1 : ∑ i : Hop, ∑ d, (if barCell c = hereCell d i then N else 0) = 0 :=
    Finset.sum_eq_zero fun i _ => Finset.sum_eq_zero fun d _ => if_neg fun h => here_ne_bar d c i h.symm
  have h2 : ∑ d, (if barCell c = barCell d then 1 else 0) = 1 := by
    rw [Finset.sum_eq_single c (fun d _ hd => if_neg fun h => hd (congrArg (fun g : GSem nD τ sig => g.1.1) h).symm)
      (fun h => absurd (Finset.mem_univ c) h), if_pos rfl]
  rw [owed_total, h1, h2]

/-- On the cell of an arrival: the units of one transfer. -/
theorem owed_here (c : Dev nD) (i : Hop) : ∑ d, owed₀ d (hereCell c i) () = N := by
  have h1 : ∑ i' : Hop, ∑ d, (if hereCell c i = hereCell d i' then N else 0) = N := by
    rw [Finset.sum_eq_single i (fun i' _ hi => Finset.sum_eq_zero fun d _ => if_neg fun h => hi (hereCell_inj h).2.symm)
        (fun h => absurd (Finset.mem_univ i) h),
      Finset.sum_eq_single c (fun d _ hd => if_neg fun h => hd (hereCell_inj h).1.symm)
        (fun h => absurd (Finset.mem_univ c) h), if_pos rfl]
  have h2 : ∑ d, (if hereCell c i = barCell d then 1 else 0) = 0 :=
    Finset.sum_eq_zero fun d _ => if_neg (here_ne_bar c d i)
  rw [owed_total, h1, h2, Nat.add_zero]

theorem launch_credit (g : GSem nD τ sig) (n : ℕ) (h : ∑ d, owed₀ d g () = n) :
    tallyOn g (launchCredit (Pipeline.owing owed₀) 0 g) = (tallyAt g () n : CellTallies nD τ sig Unit) := by
  unfold tallyAt
  refine congrArg _ (Finsupp.ext fun u => ?_)
  cases u
  rw [Pipeline.launchCredit_owing, Finsupp.single_eq_same, h]

/-- A device's credits: its neighbours' two words, and every arrival. -/
theorem credits (c : Dev nD) : (Pipeline.launchCred owed₀ c : sProp 𝕄)
    ⊢ iprop(cred (tallyAt (barCell c) () 2) ∗ bigSep Finset.univ fun i : Hop => cred (tallyAt (hereCell c i) () N)) := by
  have hi : Function.Injective fun i : Hop => (SemLoc.dma (recvSem i.1 i.2.1 i.2.2) : SemLoc sig) := fun i i' h => by
    have := congrArg role h
    simpa only [role_recv, Role.arrived.injEq] using this
  have hs : Finset.univ.map ⟨_, hi⟩ ⊆ Finset.univ.erase (SemLoc.reg barSem : SemLoc sig) := fun x hx => by
    obtain ⟨i, -, rfl⟩ := Finset.mem_map.mp hx
    exact Finset.mem_erase.mpr ⟨fun h => (by cases h), Finset.mem_univ _⟩
  unfold Pipeline.launchCred
  rw [bigSep_univ_at _ (SemLoc.reg barSem), launch_credit _ _ (owed_bar c)]
  refine sep_mono_right ((bigSep_subset hs).trans ?_)
  rw [bigSep_map]
  exact bigSep_mono fun i _ => Entails.of_eq (congrArg cred (launch_credit _ _ (owed_here c i)))

end Cert.Ring

end
-- ==== Proof.SameBody.lean ====
module

public import proofs.«01_k».proof.Proof.Steps
public import Idealize.ShloMosaic.Lib.Pipeline.Regions

@[expose] public section

noncomputable section

namespace Cert.Ring

open Idealize.ShloMosaic Idealize.ShloMosaic.Pipeline Idealize.SL.Sem Cert.KernelIdeal Cert.KernelIdeal.Gen

variable {F : FTy → Type} [FloatOps F]

set_option maxRecDepth 1000000 in
/-- The printed body, at the buffers the pipeline gives it, is the list of steps. -/
theorem body_eq (xa : Memref sig .tc .vmem S4096x1024 .i8) (hxa : xa.IsWhole) (wa : Memref sig .tc .vmem S1024x8192 .i8)
    (hwa : wa.IsWhole) (sa : Memref sig .tc .smem S1 .f32) (hsa : sa.IsWhole) (sb : Memref sig .tc .smem S1 .f32)
    (hsb : sb.IsWhole) :
    cc0_body (F := F) xa hxa wa hwa sa hsa sb hsb (Memref.whole main_v1_0) (Memref.isWhole_whole _)
      (Memref.whole main_v1_1) (Memref.isWhole_whole _) (Memref.whole main_v1_2) (Memref.isWhole_whole _)
      (Memref.whole main_v1_3) (Memref.isWhole_whole _) (Memref.whole main_v1_4) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 = body xa wa sa sb := by
  chain_rfl

end Cert.Ring

end
-- ==== Proof.Launched.lean ====
module

public import proofs.«01_k».proof.Proof.Deal
public import proofs.«01_k».proof.Proof.SameBody
public import Idealize.ShloMosaic.Lib.Pipeline.CollectiveSegs
public import Idealize.ShloMosaic.Lib.Quiescent

/-!
The run of the whole mesh: from any memory, every device's result ends holding the finished tiles, the arguments end
as they were, and every semaphore ends at zero. For any float values.
-/

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The operands, as the launch finds them -/

/-- The left operand of device `c`. -/
def argX (c : Dev nD) : IVec S4096x1024 8 := (win0_0.blk t0_0).view.read (Elt F) (m ((c : Thread nD τ).loc main_arg0))
/-- Its right operand. -/
def argW (c : Dev nD) : IVec S1024x8192 8 := (win0_1.blk t0_0).view.read (Elt F) (m ((c : Thread nD τ).loc main_arg1))
/-- Its two scales. -/
def argU (c : Dev nD) : FVec F S1 .f32 := (win0_2.blk t0_0).view.read (Elt F) (m ((c : Thread nD τ).loc main_arg2))
def argV (c : Dev nD) : FVec F S1 .f32 := (win0_3.blk t0_0).view.read (Elt F) (m ((c : Thread nD τ).loc main_arg3))

/-- What travels. -/
abbrev cargo : Dev nD → Bool → Fin 3 → Fin 8 → FVec F S1024x512 .f32 := sent (lefts (argX m)) (rights (argW m))

/-! ## Before and after the body -/

/-- What device `c` starts its body with, besides its fast memory. -/
def ready (c : Dev nD) : sProp 𝕄 :=
  iprop((∃ K, records (cargo m) K) ∗ opening c ∗ bigSep Finset.univ (kit c) ∗ bigSep Finset.univ (places c)
    ∗ semVal ((c : Thread nD τ), .dma copySem) 0)

/-- Before the body. -/
def before (c : Dev nD) : sProp 𝕄 := iprop(ready m c ∗ memory c)

/-- After it. -/
def after (c : Dev nD) : sProp 𝕄 := iprop(done (argX m) (argW m) (argU m) (argV m) c ∗ memory c)

/-- The launch's account of device `c`: the operands stay what they are, and the body takes `before` to `after`. -/
def dats (_ : Fin 1) (c : Dev nD) : Dat τ (Elt F) Unit ℕ UU ℕ cfg0 c where
  A w := m ((cfg0.win w).arr.view.loc (c : Thread nD τ))
  after w _ := match w with
    | ⟨0, _⟩ => argX m c
    | ⟨1, _⟩ => argW m c
    | ⟨2, _⟩ => argU m c
    | ⟨3, _⟩ => argV m c
  Φ t := match t with
    | ⟨0, _⟩ => before m c
    | ⟨_ + 1, _⟩ => after m c
  q _ := fullShare
  owed t := match t with
    | ⟨0, _⟩ => owed₀ c
    | ⟨_ + 1, _⟩ => 0

/-! ## The body -/

/-- A buffer owned whole. -/
theorem owns_full (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ full c b f) := by
  unfold owns; simp only [Memref.view_whole, View.read_whole, View.set_whole]

/-- A buffer holding `X`. -/
abbrev staged (c : Dev nD) (b : Ref sig .tc) (X : b.ty.Contents (Elt F)) : sProp 𝕄 :=
  iprop(∃ f : Buf (Elt F) ((c : Thread nD τ).loc b), ⌜f = X⌝ ∗ full c b f)

/-- What the launch hands to the body. -/
def given (c : Dev nD) : sProp 𝕄 :=
  iprop(before m c ∗ (dats m 0 c).owesAt () t0_0.castSucc
    ∗ (∃ d, staged c cc0_stg0_0 ((dats m 0 c).before (0 : Fin 4) t0_0 d))
    ∗ (∃ d, staged c cc0_stg1_0 ((dats m 0 c).before (1 : Fin 4) t0_0 d))
    ∗ (∃ d, staged c cc0_stg2_0 ((dats m 0 c).before (2 : Fin 4) t0_0 d))
    ∗ (∃ d, staged c cc0_stg3_0 ((dats m 0 c).before (3 : Fin 4) t0_0 d)))

/-- What the launch wants back. -/
def returned (c : Dev nD) : sProp 𝕄 :=
  iprop(after m c ∗ (dats m 0 c).owesAt () t0_0.succ ∗ staged c cc0_stg0_0 (argX m c) ∗ staged c cc0_stg1_0 (argW m c)
    ∗ staged c cc0_stg2_0 (argU m c) ∗ staged c cc0_stg3_0 (argV m c))

theorem staged_before0 (c : Dev nD) (d) : (dats m 0 c).before (0 : Fin 4) t0_0 d = argX m c := by
  unfold Dat.before; rw [if_pos (fetch0_0 t0_0)]; rfl
theorem staged_before1 (c : Dev nD) (d) : (dats m 0 c).before (1 : Fin 4) t0_0 d = argW m c := by
  unfold Dat.before; rw [if_pos (fetch0_1 t0_0)]; rfl
theorem staged_before2 (c : Dev nD) (d) : (dats m 0 c).before (2 : Fin 4) t0_0 d = argU m c := by
  unfold Dat.before; rw [if_pos (fetch0_2 t0_0)]; rfl
theorem staged_before3 (c : Dev nD) (d) : (dats m 0 c).before (3 : Fin 4) t0_0 d = argV m c := by
  unfold Dat.before; rw [if_pos (fetch0_3 t0_0)]; rfl

/-- The list of steps does what the launch wants. -/
theorem body_run (c : Dev nD) : given m c
    ⊢ run c (body (F := F) (Memref.whole cc0_stg0_0) (Memref.whole cc0_stg1_0) (Memref.whole cc0_stg2_0) (Memref.whole cc0_stg3_0))
      (fun _ => returned m c) := by
  unfold given before ready Dat.owesAt Pipeline.owesWithin
  rw [show (dats m 0 c).owed t0_0.castSucc = owed₀ c from rfl]
  iintro ⟨⟨⟨⟨%K, #HR⟩, Hop, Hk, Hp, Hc⟩, Hm⟩, ⟨%U, -, Ho⟩, ⟨%d0, %f0, %h0, Hx⟩, ⟨%d1, %f1, %h1, Hw⟩, ⟨%d2, %f2, %h2, Ha⟩,
    ⟨%d3, %f3, %h3, Hb⟩⟩
  obtain rfl := h0.trans (staged_before0 m c d0)
  obtain rfl := h1.trans (staged_before1 m c d1)
  obtain rfl := h2.trans (staged_before2 m c d2)
  obtain rfl := h3.trans (staged_before3 m c d3)
  iapply (run_end c) $$ [Hop Hk Hp Hc Hm Ho Hx Hw Ha Hb]
  · iapply (run_body K (argX m) (argW m) (argU m) (argV m) c)
    isplitr; · iexact HR
    isplitl [Hop]; · iexact Hop
    isplitl [Hk]; · iexact Hk
    isplitl [Hp]; · iexact Hp
    isplitl [Hc]; · iexact Hc
    isplitl [Hx Hw Ha Hb]
    · unfold operands
      isplitl [Hx]; · iexact Hx
      isplitl [Hw]; · iexact Hw
      isplitl [Ha]; · iexact Ha
      iexact Hb
    isplitl [Hm]; · iexact Hm
    iexists U; iexact Ho
  iintro %_ ⟨Hd, Hopd, Hm, ⟨%U', Ho⟩⟩
  unfold returned after operands Dat.owesAt Pipeline.owesWithin
  rw [show (dats m 0 c).owed t0_0.succ = 0 from rfl]
  icases Hopd with ⟨Hx, Hw, Ha, Hb⟩
  isplitl [Hd Hm]
  · isplitl [Hd]; · iexact Hd
    iexact Hm
  isplitl [Ho]
  · iexists U'
    isplitr; · ipureintro; exact fun _ _ => Or.inl trivial
    iexact Ho
  isplitl [Hx]; · iexists _; isplitr; · (ipureintro; rfl)
                  iexact Hx
  isplitl [Hw]; · iexists _; isplitr; · (ipureintro; rfl)
                  iexact Hw
  isplitl [Ha]; · iexists _; isplitr; · (ipureintro; rfl)
                  iexact Ha
  iexists _; isplitr; · (ipureintro; rfl)
  iexact Hb

set_option maxRecDepth 1000000 in
/-- The printed body does what the launch wants. -/
theorem body_obligation (c : Dev nD) : BodyObligation (dats (F := F) m 0 c) (defs₀ (F := F)) Variants.none () Set.univ := fun t => by
  rw [fin_N0 t, bigSep_W0, bigSep_W0]
  simp only [owns_full]
  show given m c ⊢ run c (cc0_body (Memref.whole cc0_stg0_0) (Memref.isWhole_whole _) (Memref.whole cc0_stg1_0)
      (Memref.isWhole_whole _) (Memref.whole cc0_stg2_0) (Memref.isWhole_whole _) (Memref.whole cc0_stg3_0)
      (Memref.isWhole_whole _) (Memref.whole main_v1_0) (Memref.isWhole_whole _) (Memref.whole main_v1_1)
      (Memref.isWhole_whole _) (Memref.whole main_v1_2) (Memref.isWhole_whole _) (Memref.whole main_v1_3)
      (Memref.isWhole_whole _) (Memref.whole main_v1_4) (Memref.isWhole_whole _) (Memref.whole cc0_scratch0)
      (Memref.isWhole_whole _) (Memref.whole cc0_scratch1) (Memref.isWhole_whole _) (Memref.whole cc0_scratch2)
      (Memref.isWhole_whole _) (Memref.whole cc0_scratch3) (Memref.isWhole_whole _) cc0_scratch4 cc0_scratch5
      cc0_scratch6 cc0_scratch7 cc0_scratch8) (fun _ => returned m c)
  rw [body_eq]
  exact body_run m c

/-! ## Before and after the launch -/

/-- What the launch deals, its credits and the arrays in slow memory make a device ready. -/
theorem start (c : Dev nD) :
    iprop(Pipeline.unscopedRestP Pipeline.Prefetch.none cfg0.spec c (fun b => m ((c : Thread nD τ).loc b)) ∗ levAts levels level
        ∗ Pipeline.launchCred owed₀ c ∗ prngReg c (ρ c) ∗ dealt (cargo m) c)
      ⊢ |={Set.univ}=> iprop(ready m c ∗ emp) := by
  have hk : (bigSep Finset.univ (kit (F := F) c) : sProp 𝕄)
      = iprop((bigSep Finset.univ fun i : Hop => dutyTok ER (leftCell c i) 0 false)
        ∗ (bigSep Finset.univ fun i : Hop => dutyTok ER (hereCell (dst i.1 c) i) 0 false)
        ∗ (bigSep Finset.univ fun i : Hop => atPos ER (leftCell c i) 0 ∅ 0)
        ∗ (bigSep Finset.univ fun i : Hop => atPos ER (hereCell c i) 0 ∅ 0)
        ∗ bigSep Finset.univ fun i : Hop => cred (tallyAt (hereCell c i) () N)) := by
    unfold kit; simp only [bigSep_sep']
  have ha : (Pipeline.unscopedRest (Ix := Unit) (Name := ℕ) (U := UU) (Lvl := ℕ) spec0 c (fun b => m ((c : Thread nD τ).loc b)) : sProp 𝕄)
      ⊢ arrays c fun b => m ((c : Thread nD τ).loc b) := Entails.of_eq (unscopedRest0_eq c _)
  rw [Pipeline.unscopedRestP_none]
  unfold ready dealt opening positions payToks records
  rw [hk]
  iintro ⟨Hu, #Hlev, Hcr, -, ⟨%K, #HK⟩, Hcp, ⟨Hpb, Hpl, Hph⟩, ⟨Htb1, Htb2⟩, Htl, Hth⟩
  ihave Hc := (credits (F := F) c) $$ Hcr
  icases Hc with ⟨Hcb, Hch⟩
  ihave Ha := ha $$ Hu
  ihave Hs := (arrays_cut c fun b => m ((c : Thread nD τ).loc b)) $$ Ha
  icases Hs with ⟨Hpl', Hr0, Hr1⟩
  imodintro
  isplitl
  · isplitr
    · iexists K
      isplitr; · iexact HK
      iexact Hlev
    isplitl [Htb1 Htb2 Hr0 Hr1 Hpb Hcb]
    · isplitl [Htb1]; · iexact Htb1
      isplitl [Htb2]; · iexact Htb2
      isplitl [Hr0]; · iexact Hr0
      isplitl [Hr1]; · iexact Hr1
      isplitl [Hpb]; · iexact Hpb
      iexact Hcb
    isplitl [Htl Hth Hpl Hph Hch]
    · isplitl [Htl]; · iexact Htl
      isplitl [Hth]; · iexact Hth
      isplitl [Hpl]; · iexact Hpl
      isplitl [Hph]; · iexact Hph
      iexact Hch
    isplitl [Hpl']; · iexact Hpl'
    iexact Hcp
  iempintro

/-- The kernel's fast memory comes with the launch, -/
theorem enter (c : Dev nD) :
    iprop(ready m c ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = before m c from rfl, scopedRest0_eq]
  unfold before memory
  iintro ⟨Hr, -, Hm⟩
  isplitl [Hr]; · iexact Hr
  iexact Hm

/-- What is left of a device when its body is done: its part of the result, and the neighbours' semaphore at zero. -/
def outcome (c : Dev nD) : sProp 𝕄 :=
  iprop(unscopedSems0 c ∗ bigSep Finset.univ fun p : Bool × Fin 8 =>
    holds c (outTile p.1 p.2) (finished (lefts (argX m)) (rights (argW m)) (scales (argU m) (argV m)) c p.1 p.2))

/-- and goes back with the semaphores. -/
theorem leave (c : Dev nD) :
    (dats m 0 c).Φ (Fin.last cfg0.N) ⊢ iprop(outcome m c ∗ ownSems c ∗ Pipeline.scopedRest cfg0.spec c) := by
  have hs : (bigSep Finset.univ (settled (F := F) c) : sProp 𝕄)
      = iprop((bigSep Finset.univ fun i : Hop => semVal (leftCell c i) 0) ∗ bigSep Finset.univ fun i : Hop => semVal (hereCell c i) 0) := by
    unfold settled; simp only [bigSep_sep']
  rw [show (dats m 0 c).Φ (Fin.last cfg0.N) = after m c from rfl, scopedRest0_eq, ownSems_eq]
  unfold after done outcome memory
  rw [unscopedSems_eq, hs]
  iintro ⟨⟨Hb, ⟨Hl, Hh⟩, Hc, Ho⟩, Hm⟩
  isplitl [Hb Ho]
  · isplitl [Hb]; · iexact Hb
    iexact Ho
  isplitl [Hl Hh Hc]
  · isplitl [Hc]; · iexact Hc
    isplitl [Hl]; · iexact Hl
    iexact Hh
  iexact Hm

/-- The launch's waits are safe. -/
theorem waits (c : Dev nD) : (levAts levels level : sProp 𝕄) ⊢ Pipeline.cellsWaits cfgs (dats m) () 0 c :=
  Pipeline.cellsWaits_intro cfgs (dats m) () 0 c fun w s t =>
    may_wait_start c _ (stage_role w s) _ (by
      rcases t with ⟨_ | _, ht⟩
      · exact Or.inl rfl
      · exact Or.inr rfl)

theorem share_full (c : Dev nD) (w : Fin cfg0.W) : (dats m 0 c).share w = fullShare := by unfold Dat.share; split <;> rfl

/-! ## Reading the final memory -/

/-- A tile that is held is what the memory holds there. -/
theorem tile_read (c : Dev nD) {sp : Space} (M : Memref sig .tc sp S1024x512 .f32) (v : FVec F S1024x512 .f32)
    (s : Phys nD τ sig (Elt F)) :
    iprop(holds c M v ∗ SI s) ⊢ (iprop(⌜M.view.read (Elt F) (s.mem.mem (M.view.loc (c : Thread nD τ))) = v⌝ ∗ SI s) : sProp 𝕄) := by
  unfold holds owns
  iintro ⟨⟨%f, %hf, H⟩, HS⟩
  icombine HS H gives %h
  isplitr
  · ipureintro
    exact (View.read_congr h).trans hf
  iexact HS

/-- What each member of a collection says of the memory, all of it says. -/
theorem read_all {I : Type} [DecidableEq I] (Φ : I → sProp 𝕄) (P : I → Prop) (s : Phys nD τ sig (Elt F))
    (h : ∀ i, iprop(Φ i ∗ SI s) ⊢ iprop(⌜P i⌝ ∗ SI s)) (S : Finset I) :
    iprop(bigSep S Φ ∗ SI s) ⊢ iprop(⌜∀ i ∈ S, P i⌝ ∗ SI s) := by
  induction S using Finset.induction_on with
  | empty =>
    iintro ⟨-, HS⟩
    isplitr; · ipureintro; exact fun i hi => absurd hi (Finset.notMem_empty i)
    iexact HS
  | insert i S hi ih =>
    have hb : bigSep (insert i S) Φ ⊢ iprop(Φ i ∗ bigSep S Φ) := Entails.of_eq (bigSep_insert hi)
    iintro ⟨HB, HS⟩
    ihave H := hb $$ HB
    icases H with ⟨H1, H2⟩
    ihave H := (h i) $$ [H1 HS]
    · isplitl [H1] <;> iassumption
    icases H with ⟨%h1, HS⟩
    ihave H := ih $$ [H2 HS]
    · isplitl [H2] <;> iassumption
    icases H with ⟨%h2, HS⟩
    isplitr
    · ipureintro
      intro j hj
      rcases Finset.mem_insert.mp hj with rfl | hj
      exacts [h1, h2 j hj]
    iexact HS

/-- Every tile of device `c`'s result is the finished one. -/
def Tiled (c : Dev nD) (s : MemSt nD τ sig (Elt F)) : Prop := ∀ p : Bool × Fin 8,
  (outTile p.1 p.2).view.read (Elt F) (s.mem ((c : Thread nD τ).loc main_v1_0))
    = finished (lefts (argX m)) (rights (argW m)) (scales (argU m) (argV m)) c p.1 p.2

theorem outcome_read (c : Dev nD) (s : Phys nD τ sig (Elt F)) :
    iprop(outcome m c ∗ emp ∗ SI s) ⊢ |={Set.univ}=> iprop(⌜(∀ sm : SemLoc sig, sm.isScoped .tc = false →
      s.mem.sem ((c.tc : Thread nD τ), sm) = 0) ∧ Tiled m c s.mem⌝ ∗ SI s) := by
  unfold outcome
  iintro ⟨⟨Hu, Ht⟩, -, HS⟩
  ihave H := (read_all _ _ s (fun p : Bool × Fin 8 => tile_read c (outTile p.1 p.2)
    (finished (lefts (argX m)) (rights (argW m)) (scales (argU m) (argV m)) c p.1 p.2) s) Finset.univ) $$ [Ht HS]
  · isplitl [Ht] <;> iassumption
  icases H with ⟨%ht, HS⟩
  imod (Pipeline.unscopedSems0_read (X := unscopedSems0 c) (c := c) fupd_intro s) $$ [Hu HS] with ⟨%hu, HS⟩
  · isplitl [Hu] <;> iassumption
  imodintro
  isplitr; · ipureintro; exact ⟨hu, fun p => ht p (Finset.mem_univ p)⟩
  iexact HS

/-! ## The run -/

/-- The ghost state the launch starts from. -/
def seed : UU := (initOf (Pipeline.cells cfgs cellOf_inj) (Pipeline.launchToks cfgs cellOf_inj), (initOf ringCells ringToks, 1))

theorem seed_split : (ownU seed : sProp 𝕄) ⊢ |={Set.univ}=>
    iprop(BI.own (EP (initOf (Pipeline.cells cfgs cellOf_inj) (Pipeline.launchToks cfgs cellOf_inj))) ∗ bigSep Finset.univ (minted (cargo m))) := by
  unfold seed
  iintro Hu
  ihave H := (ownU_pair _ _) $$ Hu
  icases H with ⟨HP, HX⟩
  ihave H := (own_pair_emb embR (initOf ringCells ringToks) (1 : Counters)) $$ HX
  icases H with ⟨HX, -⟩
  imod (fund_ring (cargo m)) $$ HX with HG
  imodintro
  isplitl [HP]; · iexact HP
  iexact HG

/-- What is true of every final state: the arguments are as they were, and each device's result is made of the finished
    tiles. -/
def Ends (r : PUnit × MemSt nD τ sig (Elt F)) : Prop := ∀ c : Dev nD,
  (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ Tiled m c r.2

set_option maxRecDepth 1000000 in
/-- From any memory with every semaphore at zero, every fair execution of the mesh ends, in a state as `Ends` says and
    with every semaphore at zero again. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl) (hbody := body_obligation m) (hne := block_pos0) (harr := arr_whole0) (hstage := stage_whole0)
    (hshare := share_full m) (hdistinct := winFacts0.arr_inj)
    (O₀ := owed₀) (howed₀ := fun _ => rfl) (howedN := fun _ => rfl)
    (L := levels) (lv := level) (hL := levels_of_ne) (hwaits := waits m)
    (G := minted (cargo m)) (G' := dealt (cargo m)) (u₀ := seed) (hu₀ := seed_split m) (hglob := deal_all (cargo m))
    (hA := fun _ _ => rfl) (hpf := fun _ k => k.elim0)
    (X := ready m) (Y := outcome m) (Z := fun _ => iprop(emp))
    (hX := start m ρ) (hin := enter m) (hout := leave m)
    (QY := fun c s => (∀ sm : SemLoc sig, sm.isScoped .tc = false → s.sem ((c.tc : Thread nD τ), sm) = 0) ∧ Tiled m c s)
    (hY := outcome_read m)
    (hQ := fun _ h hs => ⟨fun c => ⟨⟨((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩, (h c).2.2.2⟩,
      sem_eq_zero hs fun c => (h c).2.2.1⟩)

/-- In particular the arguments end unchanged and every semaphore at zero. -/
theorem run_frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run defs _ _).mono (fun _ h => ⟨fun c => (h.1 c).1, h.2⟩) (run_main m ρ)

end Cert.Ring

end
-- ==== Proof.Block.lean ====
module

public import proofs.«01_k».proof.Proof.Whole
public import Idealize.ShloMosaic.Lib.MatmulPlain
public import Idealize.ShloMosaic.Lib.ValueIdx
public import Idealize.ShloMosaic.Lib.Pipeline.Value

/-!
What one tile of the result is over the extended reals: at each entry, the sum over the four devices of their
products, scaled and cut off below zero.
-/

@[expose] public section

noncomputable section

namespace Cert.Ring

open Idealize.ShloMosaic Idealize.ShloMosaic.ValueIdx Idealize.SL.Sem
open Cert.KernelIdeal Cert.KernelIdeal.Gen
open scoped BigOperators

/-- A tile read back in its own shape is the tile. -/
theorem same_eq (v : FVec Ideal S1024x512 .f32) : same v = v := shapeCast_self v _

/-- The left operand in the short format has the integers' values, -/
theorem lefts_apply (xs : Dev nD → IVec S4096x1024 8) (c : Dev nD) (i : S4096x1024.Idx) :
    lefts (F := Ideal) xs c i = (((xs c i).toInt : ℝ) : EReal) := by
  unfold lefts k0_pay3
  simp only [shapeCast_self]
  rfl

/-- and so has the right operand. -/
theorem rights_apply (ws : Dev nD → IVec S1024x8192 8) (c : Dev nD) (i : S1024x8192.Idx) :
    rights (F := Ideal) ws c i = (((ws c i).toInt : ℝ) : EReal) := by
  unfold rights k0_pay4
  simp only [shapeCast_self]
  rfl

/-- The scale is the product of the two. -/
theorem scales_apply (us vs : Dev nD → FVec Ideal S1 .f32) (c : Dev nD) :
    scales us vs c = us c (ix1 (0 : Fin 1)) * vs c (ix1 (0 : Fin 1)) := by
  have h : ∀ f : FVec Ideal S1 .f32, ∀ i : S1.Idx, f i = f (ix1 (0 : Fin 1)) := fun f i =>
    congrArg f (funext fun a => by fin_cases a; exact Subsingleton.elim (α := Fin 1) _ _)
  exact congrArg₂ (fun a b : EReal => a * b) (h (us c) _) (h (vs c) _)

/-- The product of two tiles, entry by entry. -/
theorem dot_apply (x : FVec Ideal S1024x1024 .bf16) (w : FVec Ideal S1024x512 .bf16) (r : Fin 1024) (l : Fin 512) :
    dot (F := Ideal) x w (ix2 r l) = ∑ k : Fin 1024, x (ix2 r k) * w (ix2 k l) := by
  refine (Ideal.matmul_plain_apply none x w (constant S1024x512 .f32 0x00000000#32) r l).trans ?_
  rw [constant_apply, Ideal.ofBits_zero_f32, zero_add]

/-! ## Which rows and columns -/

/-- The rows of the last round are the device's own, -/
theorem off_last : ∀ (d : Bool) (c : Dev nD), off d c 3 = ![1024 * c.val, 0] := by decide

/-- and the rows of a round are those the neighbour had in the round before. -/
theorem off_back : ∀ (d : Bool) (c : Dev nD) (s : Fin 3), off d c s.succ = off d (dst (!d) c) s.castSucc := by decide

theorem row_lt (q : Dev nD) (r : Fin 1024) : 1024 * q.val + r.val < 4096 := by
  have := r.isLt; have : q.val < 4 := q.isLt; omega

theorem col_lt (d : Bool) (j : Fin 8) (l : Fin 512) : col d j + l.val < 8192 := by
  have := l.isLt
  have := j.isLt
  cases d
  · show 512 * j.val + l.val < 8192; omega
  · show 4096 + 512 * j.val + l.val < 8192; omega

theorem rowsOf_apply (x : FVec Ideal S4096x1024 .bf16) (c : Dev nD) (d : Bool) (s : Fin 4) (q : Dev nD)
    (h : off d c s = ![1024 * q.val, 0]) (r k : Fin 1024) :
    rowsOf (F := Ideal) x c d s (ix2 r k) = x (ix2 ⟨1024 * q.val + r.val, row_lt q r⟩ k) := by
  have h0 : off d c s 0 = 1024 * q.val := congrFun h 0
  have h1 : off d c s 1 = 0 := congrFun h 1
  refine congrArg x (funext fun a => Fin.ext ?_)
  match a with
  | ⟨0, _⟩ =>
    show off d c s 0 + 1 * r.val = 1024 * q.val + r.val
    rw [h0]; omega
  | ⟨1, _⟩ =>
    show off d c s 1 + 1 * k.val = k.val
    rw [h1]; omega

theorem colsOf_apply (w : FVec Ideal S1024x8192 .bf16) (d : Bool) (j : Fin 8) (k : Fin 1024) (l : Fin 512) :
    colsOf (F := Ideal) w d j (ix2 k l) = w (ix2 k ⟨col d j + l.val, col_lt d j l⟩) := by
  refine congrArg w (funext fun a => Fin.ext ?_)
  match a with
  | ⟨0, _⟩ => show 0 + 1 * k.val = k.val; omega
  | ⟨1, _⟩ => show col d j + 1 * l.val = col d j + l.val; omega

theorem outTile_apply (f : FVec Ideal S1024x8192 .f32) (d : Bool) (j : Fin 8) (r : Fin 1024) (l : Fin 512) :
    (outTile d j).view.read (Elt Ideal) f (ix2 r l) = f (ix2 r ⟨col d j + l.val, col_lt d j l⟩) := by
  refine congrArg f (funext fun a => Fin.ext ?_)
  match a with
  | ⟨0, _⟩ => show 0 + 1 * r.val = r.val; omega
  | ⟨1, _⟩ => show col d j + 1 * l.val = col d j + l.val; omega

/-! ## Round the ring -/

/-- A value of each device added up from device `c` back along the direction. -/
def along (d : Bool) (f : Dev nD → EReal) : ℕ → Dev nD → EReal
  | 0, c => f c
  | s + 1, c => f c + along d f s (dst (!d) c)

/-- The neighbour a direction leads to is the next one clockwise, the one before counter-clockwise. -/
theorem dst_eq : ∀ (d : Bool) (c : Dev nD), dst d c = if d then c - 1 else c + 1 := by decide

/-- Once round the ring every device has been added. -/
theorem along_all (d : Bool) (f : Dev nD → EReal) (c : Dev nD) : along d f 3 c = ∑ e : Fin 4, f e := by
  rw [Fin.sum_univ_four]
  simp only [along, dst_eq]
  cases d <;> fin_cases c
  · show f 0 + (f 3 + (f 2 + f 1)) = f 0 + f 1 + f 2 + f 3; ac_rfl
  · show f 1 + (f 0 + (f 3 + f 2)) = f 0 + f 1 + f 2 + f 3; ac_rfl
  · show f 2 + (f 1 + (f 0 + f 3)) = f 0 + f 1 + f 2 + f 3; ac_rfl
  · show f 3 + (f 2 + (f 1 + f 0)) = f 0 + f 1 + f 2 + f 3; ac_rfl
  · show f 0 + (f 1 + (f 2 + f 3)) = f 0 + f 1 + f 2 + f 3; ac_rfl
  · show f 1 + (f 2 + (f 3 + f 0)) = f 0 + f 1 + f 2 + f 3; ac_rfl
  · show f 2 + (f 3 + (f 0 + f 1)) = f 0 + f 1 + f 2 + f 3; ac_rfl
  · show f 3 + (f 0 + (f 1 + f 2)) = f 0 + f 1 + f 2 + f 3; ac_rfl

variable (X : Dev nD → FVec Ideal S4096x1024 .bf16) (W : Dev nD → FVec Ideal S1024x8192 .bf16)

/-- Device `e`'s product at row `r` of device `q`'s block of rows and column `l` of a tile. -/
def share (d : Bool) (j : Fin 8) (q : Dev nD) (r : Fin 1024) (l : Fin 512) (e : Dev nD) : EReal :=
  ∑ k : Fin 1024, X e (ix2 ⟨1024 * q.val + r.val, row_lt q r⟩ k) * W e (ix2 k ⟨col d j + l.val, col_lt d j l⟩)

theorem product_apply (d : Bool) (j : Fin 8) (s : Fin 4) (c q : Dev nD) (h : off d c s = ![1024 * q.val, 0])
    (r : Fin 1024) (l : Fin 512) :
    dot (F := Ideal) (rowsOf (X c) c d s) (colsOf (W c) d j) (ix2 r l) = share X W d j q r l c := by
  rw [dot_apply]
  exact Finset.sum_congr rfl fun k _ => congrArg₂ (fun a b : EReal => a * b) (rowsOf_apply (X c) c d s q h r k)
    (colsOf_apply (W c) d j k l)

/-- A partial sum is the products of the devices it has passed. -/
theorem gathered_apply (d : Bool) (j : Fin 8) (q : Dev nD) (r : Fin 1024) (l : Fin 512) (s : ℕ) :
    ∀ (h : s < 4) (c : Dev nD), off d c ⟨s, h⟩ = ![1024 * q.val, 0] →
      gathered (F := Ideal) X W d j s h c (ix2 r l) = along d (share X W d j q r l) s c := by
  induction s with
  | zero => exact fun h c hc => product_apply X W d j ⟨0, h⟩ c q hc r l
  | succ s ih =>
    intro h c hc
    refine congrArg₂ (fun a b : EReal => a + b) (product_apply X W d j ⟨s + 1, h⟩ c q hc r l) ?_
    rw [same_eq]
    exact ih _ _ ((off_back d c ⟨s, by omega⟩).symm.trans hc)

/-- An entry of a finished tile. -/
theorem finished_apply (sc : Dev nD → EReal) (c : Dev nD) (d : Bool) (j : Fin 8) (r : Fin 1024) (l : Fin 512) :
    finished (F := Ideal) X W sc c d j (ix2 r l) = max ((∑ e : Fin 4, share X W d j c r l e) * sc c) 0 := by
  unfold finished
  rw [same_eq, ← along_all d, ← gathered_apply X W d j c r l 3 (by omega) c (off_last d c), ← Ideal.ofBits_zero_f32]
  rfl

end Cert.Ring

end
-- ==== Proof.Reference.lean ====
module

public import proofs.«01_k».proof.Proof.Gen.ReferenceIdeal.Run
public import Idealize.ShloMosaic.Lib.StackMember
public import Idealize.ShloMosaic.Lib.ValueIdx
public import Idealize.ShloMosaic.Lib.IdealHost

/-!
What the reference computes, entry by entry, over the extended reals.
-/

@[expose] public section

noncomputable section

namespace Cert.RefValue

open Idealize.ShloMosaic Idealize.ShloMosaic.ValueIdx Idealize.SL.Sem
open Cert.ReferenceIdeal Cert.ReferenceIdeal.Gen
open scoped BigOperators

/-- The reference's result on the whole arrays `A` and `B` and the scales `u` and `v`, as the program composes it. -/
def whole (A : IVec S4096x4096 8) (B : IVec S4096x8192 8) (u v : FVec Ideal S1 .f32) : FVec Ideal S4096x8192 .f32 :=
  maximumf (mulf (Host.dotGeneral dot_S4096x4096_S4096x8192_S4096x8192_1_0_0_1_n_n none
      (sitofp .f32 (extsi 32 A natLt_8_32)) (sitofp .f32 (extsi 32 B natLt_8_32)))
    (broadcastInDim S4096x8192 ![0, 1] bcast_S1x1_S4096x8192_0_1 (broadcastInDim S1x1 ![1] bcast_S1_S1x1_1 (mulf u v))))
    (broadcastInDim S4096x8192 ![] bcast_S_S4096x8192 (constant S_ .f32 0x00000000#32))

/-- An integer of eight bits as an extended real. -/
abbrev num (b : BitVec 8) : EReal := ((b.toInt : ℝ) : EReal)

/-- Widening an integer first changes nothing. -/
theorem widened_apply {s : Shape} (A : IVec s 8) (i : s.Idx) :
    (sitofp .f32 (extsi 32 A natLt_8_32) : FVec Ideal s .f32) i = num (A i) := by
  show (((((A i).signExtend 32).toInt : ℤ) : ℝ) : EReal) = (((A i).toInt : ℝ) : EReal)
  rw [BitVec.toInt_signExtend_of_le (by omega)]

/-- The scale stands at every entry. -/
theorem scale_apply (x : FVec Ideal S1 .f32) (i : S4096x8192.Idx) :
    broadcastInDim S4096x8192 ![0, 1] bcast_S1x1_S4096x8192_0_1 (broadcastInDim S1x1 ![1] bcast_S1_S1x1_1 x) i
      = x (ix1 (0 : Fin 1)) :=
  congrArg x (funext fun a => by fin_cases a; exact Subsingleton.elim (α := Fin 1) _ _)

/-- An entry of the reference's result: the row's product with the column, scaled and cut off below zero. -/
theorem whole_apply (A : IVec S4096x4096 8) (B : IVec S4096x8192 8) (u v : FVec Ideal S1 .f32) (R : Fin 4096) (C : Fin 8192) :
    whole A B u v (ix2 R C)
      = max ((∑ k : Fin 4096, num (A (ix2 R k)) * num (B (ix2 k C))) * (u (ix1 (0 : Fin 1)) * v (ix1 (0 : Fin 1)))) 0 := by
  unfold whole
  rw [maximumf_apply, mulf_apply, scale_apply]
  have hd : Host.dotGeneral dot_S4096x4096_S4096x8192_S4096x8192_1_0_0_1_n_n none
      (sitofp .f32 (extsi 32 A natLt_8_32) : FVec Ideal S4096x4096 .f32) (sitofp .f32 (extsi 32 B natLt_8_32)) (ix2 R C)
      = ∑ k : Fin 4096, num (A (ix2 R k)) * num (B (ix2 k C)) :=
    (StackMember.dotGeneral_plain_apply none _ _ R C).trans (Finset.sum_congr rfl fun k _ => congrArg₂ (fun a b : EReal => a * b)
      (widened_apply A _) (widened_apply B _))
  rw [hd]
  refine congrArg₂ (fun a b : EReal => max a b) rfl ?_
  exact Ideal.ofBits_zero_f32

/-- The whole product is the sum of the four devices' parts of it. -/
theorem sum_parts (g : Fin 4096 → EReal) :
    ∑ e : Fin 4, ∑ k : Fin 1024, g ⟨e.val * 1024 + k.val, by omega⟩ = ∑ K : Fin 4096, g K := by
  rw [← Equiv.sum_comp (finProdFinEquiv : Fin 4 × Fin 1024 ≃ Fin (4 * 1024)) g, Fintype.sum_prod_type]
  refine Finset.sum_congr rfl fun e _ => Finset.sum_congr rfl fun k _ => congrArg g (Fin.ext ?_)
  show e.val * 1024 + k.val = k.val + 1024 * e.val
  omega

end Cert.RefValue

end
-- ==== Proof.Equation.lean ====
module

public import proofs.«01_k».proof.Proof.Block
public import proofs.«01_k».proof.Proof.Launched
public import proofs.«01_k».proof.Proof.Reference
public import Idealize.ShloMosaic.Lib.Layout
public import Idealize.ShloMosaic.Lib.Pipeline.Value

/-!
The equation: when each device holds its blocks of the whole operands, its finished tiles are its block of the
reference's result.
-/

@[expose] public section

noncomputable section

namespace Cert.Ring

open Idealize.ShloMosaic Idealize.ShloMosaic.TcCoe Idealize.ShloMosaic.ValueIdx Idealize.SL.Sem
open Cert.KernelIdeal Cert.KernelIdeal.Gen
open Cert.RefValue (num whole whole_apply sum_parts)
open scoped BigOperators

variable (m : (ℓ : Loc nD τ sig) → Buf (Elt Ideal) ℓ)

/-- What the body finds in its operands' staging buffers are the argument arrays. -/
theorem argX_eq (c : Dev nD) : argX m c = m ((c : Thread nD τ).loc main_arg0) :=
  funext fun i => congrArg (m ((c : Thread nD τ).loc main_arg0)) (funext fun a => Fin.ext (win0_0.rect_emb_val_of_index_zero t0_0 a rfl i))
theorem argW_eq (c : Dev nD) : argW m c = m ((c : Thread nD τ).loc main_arg1) :=
  funext fun i => congrArg (m ((c : Thread nD τ).loc main_arg1)) (funext fun a => Fin.ext (win0_1.rect_emb_val_of_index_zero t0_0 a rfl i))
theorem argU_eq (c : Dev nD) : argU m c = m ((c : Thread nD τ).loc main_arg2) :=
  funext fun i => congrArg (m ((c : Thread nD τ).loc main_arg2)) (funext fun a => Fin.ext (win0_2.rect_emb_val_of_index_zero t0_0 a rfl i))
theorem argV_eq (c : Dev nD) : argV m c = m ((c : Thread nD τ).loc main_arg3) :=
  funext fun i => congrArg (m ((c : Thread nD τ).loc main_arg3)) (funext fun a => Fin.ext (win0_3.rect_emb_val_of_index_zero t0_0 a rfl i))

/-- Every column lies in one tile. -/
theorem column_in_tile (C : Fin 8192) : ∃ (d : Bool) (j : Fin 8) (l : Fin 512), C.val = col d j + l.val := by
  by_cases h : C.val < 4096
  · exact ⟨false, ⟨C.val / 512, by omega⟩, ⟨C.val % 512, by omega⟩, by show C.val = 512 * (C.val / 512) + C.val % 512; omega⟩
  · exact ⟨true, ⟨(C.val - 4096) / 512, by omega⟩, ⟨C.val % 512, by omega⟩, by
      show C.val = 4096 + 512 * ((C.val - 4096) / 512) + C.val % 512; omega⟩

/-- The four devices' products add up to the product of the whole arrays. -/
theorem shares_sum (A : IVec ⟨2, ![4096, 4096]⟩ 8) (B : IVec ⟨2, ![4096, 8192]⟩ 8) (xs : Dev nD → IVec S4096x1024 8)
    (ws : Dev nD → IVec S1024x8192 8)
    (hx : ∀ e, xs e = Layout.block ⟨2, ![4096, 1024]⟩ ⟨2, ![4096, 4096]⟩ 1 4 e A)
    (hw : ∀ e, ws e = Layout.block ⟨2, ![1024, 8192]⟩ ⟨2, ![4096, 8192]⟩ 0 4 e B)
    (d : Bool) (j : Fin 8) (q : Dev nD) (r : Fin 1024) (l : Fin 512) :
    (∑ e : Fin 4, share (lefts (F := Ideal) xs) (rights (F := Ideal) ws) d j q r l e)
      = ∑ K : Fin 4096, num (A (ix2 ⟨1024 * q.val + r.val, row_lt q r⟩ K)) * num (B (ix2 K ⟨col d j + l.val, col_lt d j l⟩)) := by
  rw [← sum_parts]
  refine Finset.sum_congr rfl fun e _ => Finset.sum_congr rfl fun k _ => congrArg₂ (fun a b : EReal => a * b) ?_ ?_
  · rw [lefts_apply, hx e, Layout.block_apply]
    refine congrArg (fun i => num (A i)) (funext fun a => Fin.ext ?_)
    match a with
    | ⟨0, _⟩ => rfl
    | ⟨1, _⟩ => rfl
  · rw [rights_apply, hw e, Layout.block_apply]
    refine congrArg (fun i => num (B i)) (funext fun a => Fin.ext ?_)
    match a with
    | ⟨0, _⟩ => rfl
    | ⟨1, _⟩ => rfl

/-- The equation, device by device. -/
theorem tiles_are_block (A : IVec ⟨2, ![4096, 4096]⟩ 8) (B : IVec ⟨2, ![4096, 8192]⟩ 8) (u v : FVec Ideal ⟨1, ![1]⟩ .f32)
    (hx : ∀ e : Dev nD, m ((e : Thread nD τ).loc main_arg0) = Layout.block ⟨2, ![4096, 1024]⟩ ⟨2, ![4096, 4096]⟩ 1 4 e A)
    (hw : ∀ e : Dev nD, m ((e : Thread nD τ).loc main_arg1) = Layout.block ⟨2, ![1024, 8192]⟩ ⟨2, ![4096, 8192]⟩ 0 4 e B)
    (hu : ∀ e : Dev nD, m ((e : Thread nD τ).loc main_arg2) = u) (hv : ∀ e : Dev nD, m ((e : Thread nD τ).loc main_arg3) = v)
    (c : Dev nD) (s : MemSt nD τ sig (Elt Ideal)) (h : Tiled m c s) :
    s.mem ((c : Thread nD τ).loc main_v1_0)
      = Layout.block ⟨2, ![1024, 8192]⟩ ⟨2, ![4096, 8192]⟩ 0 4 c (whole A B u v) := by
  have key : ∀ (r : Fin 1024) (C : Fin 8192), (s.mem ((c : Thread nD τ).loc main_v1_0) : FVec Ideal S1024x8192 .f32) (ix2 r C)
      = whole A B u v (ix2 ⟨1024 * c.val + r.val, row_lt c r⟩ C) := by
    intro r C
    obtain ⟨d, j, l, hC⟩ := column_in_tile C
    obtain rfl : C = ⟨col d j + l.val, col_lt d j l⟩ := Fin.ext hC
    rw [← outTile_apply (s.mem ((c : Thread nD τ).loc main_v1_0)), h (d, j), finished_apply, whole_apply,
      shares_sum A B (argX m) (argW m) (fun e => (argX_eq m e).trans (hx e)) (fun e => (argW_eq m e).trans (hw e)),
      scales_apply, argU_eq, argV_eq, hu, hv]
  funext i
  rw [Layout.block_apply]
  refine ((congrArg (s.mem ((c : Thread nD τ).loc main_v1_0)) (eq_ix2 i)).trans (key (i 0) (i 1))).trans
    (congrArg (whole A B u v) (funext fun a => Fin.ext ?_))
  match a with
  | ⟨0, _⟩ => show 1024 * c.val + (i 0).val = c.val * 1024 + (i 0).val; omega
  | ⟨1, _⟩ => rfl

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launched
public import proofs.«01_k».proof.Proof.Equation
public import Idealize.ShloMosaic.Adequacy
public import Idealize.ShloMosaic.Init

@[expose] public section

noncomputable section

/-!
The five claims, assembled: both readings of the kernel end with every semaphore at zero and their arguments unchanged,
the reference does, no operation was rewritten, and over the extended reals each device's result is its block of the
reference's.
-/

namespace Cert.Proof

open Idealize.ShloMosaic Idealize.SL.Sem

/-- The kernel's table of bodies is the same in both readings, over any float values, -/
theorem bodies_same {F : FTy → Type} [FloatOps F] : Cert.Kernel.defs₀ (F := F) = Cert.KernelIdeal.defs₀ (F := F) :=
  congrArg Defs.onTc (funext fun l => funext fun x => match l, x with
    | ⟨0, _⟩, (_, _) => rfl
    | ⟨_ + 1, h⟩, _ => absurd h (Nat.not_lt.2 (Nat.le_add_left _ _)))

/-- and so is the whole program's. -/
theorem programs_same {F : FTy → Type} [FloatOps F] : Cert.Kernel.defs (F := F) = Cert.KernelIdeal.defs (F := F) :=
  congrArg (Pipeline.defs Cert.KernelIdeal.pcfgs) bodies_same

/-- The kernel over machine floats runs, leaves its arguments unchanged and every semaphore at zero: the run of
    `Launched.lean`, read at `Bits`. -/
theorem frame_kernel : Cert.quiescent_Kernel := by
  intro m ρ _
  have h := Cert.Ring.run_frame (F := Bits) m ρ
  rw [← programs_same] at h
  exact h

/-- So does the kernel over the extended reals; -/
theorem frame_ideal : Cert.quiescent_KernelIdeal := fun m ρ _ => Cert.Ring.run_frame (F := Ideal) m ρ

/-- and so does the reference, which has no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Over the extended reals each device ends with its block of what the reference computes from the whole arrays. -/
theorem value : Cert.algebraic_KernelIdeal_ReferenceIdeal := fun m g m' g' _ h =>
  ⟨Cert.RefValue.whole _ _ _ _,
    (θ_run (Cert.KernelIdeal.defs (F := Ideal)) _ _).mono (fun r hr c =>
      ⟨Cert.Ring.tiles_are_block m _ _ _ _ (fun e => (h e).1) (fun e => (h e).2.1) (fun e => (h e).2.2.1) (fun e => (h e).2.2.2)
        c r.2 (hr.1 c).2, (hr.1 c).1⟩) (Cert.Ring.run_main (F := Ideal) m g),
    (θ_run (Cert.ReferenceIdeal.defs (F := Ideal)) _ _).mono (fun _ hr => hr 0) (Cert.ReferenceIdeal.Value.run (F := Ideal) m' g')⟩

/-- All of them. -/
theorem claim : Cert.Claim :=
  ⟨Cert.Kernel.Gen.facts, Cert.KernelIdeal.Gen.facts, Cert.ReferenceIdeal.Gen.facts,
    frame_kernel, frame_ideal, frame_reference, trivial, value⟩

end Cert.Proof

end
